-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x150x64 : Shape := ⟨3, ![512, 150, 64]⟩
abbrev S512x150 : Shape := ⟨2, ![512, 150]⟩
abbrev S512x150x32 : Shape := ⟨3, ![512, 150, 32]⟩
abbrev S_ : Shape := ⟨0, ![]⟩
abbrev S512x152x32 : Shape := ⟨3, ![512, 152, 32]⟩
abbrev S512x32x150 : Shape := ⟨3, ![512, 32, 150]⟩
abbrev S512x32x256 : Shape := ⟨3, ![512, 32, 256]⟩
abbrev S512x256 : Shape := ⟨2, ![512, 256]⟩
abbrev S512x1x256 : Shape := ⟨3, ![512, 1, 256]⟩
abbrev S104x1 : Shape := ⟨2, ![104, 1]⟩
abbrev S1x152x32 : Shape := ⟨3, ![1, 152, 32]⟩
abbrev S1x32x256 : Shape := ⟨3, ![1, 32, 256]⟩
abbrev S1x1x256 : Shape := ⟨3, ![1, 1, 256]⟩
abbrev S1x256 : Shape := ⟨2, ![1, 256]⟩
abbrev S256x1 : Shape := ⟨2, ![256, 1]⟩
abbrev S152x1 : Shape := ⟨2, ![152, 1]⟩
abbrev S152x256 : Shape := ⟨2, ![152, 256]⟩
abbrev S1x152x1 : Shape := ⟨3, ![1, 152, 1]⟩
abbrev S256 : Shape := ⟨1, ![256]⟩
abbrev S256x256 : Shape := ⟨2, ![256, 256]⟩
abbrev S104x256 : Shape := ⟨2, ![104, 256]⟩
abbrev S104 : Shape := ⟨1, ![104]⟩
abbrev S100x1 : Shape := ⟨2, ![100, 1]⟩
abbrev S100 : Shape := ⟨1, ![100]⟩

abbrev nBuf : Space → Nat
  | .hbm => 21
  | .vmem => 16
  | .smem => 0
  | _ => 0

abbrev bufTy : (tb : Table) → Fin (tcTables nBuf tb) → BufTy
  | .hbm, ⟨0, _⟩ => ⟨S512x150x64, .f32⟩
  | .hbm, ⟨1, _⟩ => ⟨S512x150, .f32⟩
  | .hbm, ⟨2, _⟩ => ⟨S512x150x32, .f32⟩
  | .hbm, ⟨3, _⟩ => ⟨S512x150x32, .f32⟩
  | .hbm, ⟨4, _⟩ => ⟨S_, .i32⟩
  | .hbm, ⟨5, _⟩ => ⟨S_, .f32⟩
  | .hbm, ⟨6, _⟩ => ⟨S512x152x32, .f32⟩
  | .hbm, ⟨7, _⟩ => ⟨S512x32x150, .f32⟩
  | .hbm, ⟨8, _⟩ => ⟨S_, .i32⟩
  | .hbm, ⟨9, _⟩ => ⟨S_, .f32⟩
  | .hbm, ⟨10, _⟩ => ⟨S512x32x256, .f32⟩
  | .hbm, ⟨11, _⟩ => ⟨S_, .i32⟩
  | .hbm, ⟨12, _⟩ => ⟨S_, .f32⟩
  | .hbm, ⟨13, _⟩ => ⟨S512x256, .f32⟩
  | .hbm, ⟨14, _⟩ => ⟨S512x1x256, .f32⟩
  | .hbm, ⟨15, _⟩ => ⟨S104x1, .f32⟩
  | .hbm, ⟨16, _⟩ => ⟨S104x1, .i32⟩
  | .hbm, ⟨17, _⟩ => ⟨S100x1, .f32⟩
  | .hbm, ⟨18, _⟩ => ⟨S100, .f32⟩
  | .hbm, ⟨19, _⟩ => ⟨S100x1, .i32⟩
  | .hbm, ⟨20, _⟩ => ⟨S100, .i32⟩
  | .local _ .vmem, ⟨0, _⟩ => ⟨S1x152x32, .f32⟩
  | .local _ .vmem, ⟨1, _⟩ => ⟨S1x152x32, .f32⟩
  | .local _ .vmem, ⟨2, _⟩ => ⟨S1x152x32, .f32⟩
  | .local _ .vmem, ⟨3, _⟩ => ⟨S1x152x32, .f32⟩
  | .local _ .vmem, ⟨4, _⟩ => ⟨S1x32x256, .f32⟩
  | .local _ .vmem, ⟨5, _⟩ => ⟨S1x32x256, .f32⟩
  | .local _ .vmem, ⟨6, _⟩ => ⟨S1x32x256, .f32⟩
  | .local _ .vmem, ⟨7, _⟩ => ⟨S1x32x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S104x1, .f32⟩
  | .local _ .vmem, ⟨14, _⟩ => ⟨S104x1, .i32⟩
  | .local _ .vmem, ⟨15, _⟩ => ⟨S1x256, .f32⟩
  | _, _ => ⟨S512x150x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_c_1 : Ref sig .tc := ⟨.hbm, 11, rfl⟩
abbrev main_call2_v0 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![256], ![false]⟩

def k0_cond1 (i : grid0.Coords) : BitVec 1 :=
  let arg0 : BitVec 32 := BitVec.ofNat 32 (i 0).val
  let c255_i32 : BitVec 32 := 255#32
  let v1161 : BitVec 1 := Scalar.cmpi .eq arg0 c255_i32
  let v1162 : BitVec 32 := Scalar.extui v1161
  let c0_i32_587 : BitVec 32 := 0#32
  let v1163 : BitVec 1 := Scalar.cmpi .ne v1162 c0_i32_587
  v1163

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c510_i32 : BitVec 32 := 510#32
  let v2 : BitVec 32 := Scalar.minsi v1 c510_i32
  let c0_i32 : BitVec 32 := 0#32
  let c0_i32_0 : BitVec 32 := 0#32
  let c0_i32_1 : BitVec 32 := 0#32
  ![v2.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c511_i32 : BitVec 32 := 511#32
  let v2 : BitVec 32 := Scalar.minsi v1 c511_i32
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c511_i32 : BitVec 32 := 511#32
  let v2 : BitVec 32 := Scalar.minsi v1 c511_i32
  let c0_i32 : BitVec 32 := 0#32
  let c0_i32_1 : BitVec 32 := 0#32
  let c0_i32_2 : BitVec 32 := 0#32
  ![v2.toNat, c0_i32.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x152x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x152x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S104x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S104x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S512x150x64 : Shape := ⟨3, ![512, 150, 64]⟩
abbrev S512x150 : Shape := ⟨2, ![512, 150]⟩
abbrev S1x150 : Shape := ⟨2, ![1, 150]⟩
abbrev S150 : Shape := ⟨1, ![150]⟩
abbrev S511x150x64 : Shape := ⟨3, ![511, 150, 64]⟩
abbrev S511x150 : Shape := ⟨2, ![511, 150]⟩
abbrev S_ : Shape := ⟨0, ![]⟩
abbrev S1x150x64 : Shape := ⟨3, ![1, 150, 64]⟩
abbrev S150x64 : Shape := ⟨2, ![150, 64]⟩
abbrev S150x32 : Shape := ⟨2, ![150, 32]⟩
abbrev S150x8x4 : Shape := ⟨3, ![150, 8, 4]⟩
abbrev S150x8x1 : Shape := ⟨3, ![150, 8, 1]⟩
abbrev S150x8 : Shape := ⟨2, ![150, 8]⟩
abbrev S150x1x8 : Shape := ⟨3, ![150, 1, 8]⟩
abbrev S1x150x8 : Shape := ⟨3, ![1, 150, 8]⟩
abbrev S150x150x8 : Shape := ⟨3, ![150, 150, 8]⟩
abbrev S150x150 : Shape := ⟨2, ![150, 150]⟩
abbrev S150x1 : Shape := ⟨2, ![150, 1]⟩
abbrev S100 : Shape := ⟨1, ![100]⟩

abbrev nBuf : Space → Nat
  | .hbm => 165
  | .vmem => 0
  | .smem => 0
  | _ => 0

abbrev hbmTy0_0 (i : Nat) : BufTy := match i % 128 with
  | 0 => ⟨S512x150x64, .f32⟩
  | 1 => ⟨S512x150, .f32⟩
  | 2 => ⟨S1x150, .f32⟩
  | 3 => ⟨S150, .f32⟩
  | 4 => ⟨S511x150x64, .f32⟩
  | 5 => ⟨S511x150x64, .f32⟩
  | 6 => ⟨S511x150, .f32⟩
  | 7 => ⟨S_, .i32⟩
  | 8 => ⟨S511x150x64, .f32⟩
  | 9 => ⟨S511x150x64, .f32⟩
  | 10 => ⟨S511x150, .f32⟩
  | 11 => ⟨S_, .i32⟩
  | 12 => ⟨S150, .f32⟩
  | 13 => ⟨S_, .i32⟩
  | 14 => ⟨S_, .i1⟩
  | 15 => ⟨S_, .i32⟩
  | 16 => ⟨S_, .i32⟩
  | 17 => ⟨S1x150x64, .f32⟩
  | 18 => ⟨S150x64, .f32⟩
  | 19 => ⟨S_, .i32⟩
  | 20 => ⟨S_, .i32⟩
  | 21 => ⟨S1x150x64, .f32⟩
  | 22 => ⟨S150x64, .f32⟩
  | 23 => ⟨S_, .i32⟩
  | 24 => ⟨S1x150, .f32⟩
  | 25 => ⟨S150, .f32⟩
  | 26 => ⟨S150x32, .f32⟩
  | 27 => ⟨S150x32, .f32⟩
  | 28 => ⟨S150x8x4, .f32⟩
  | 29 => ⟨S150x8x4, .f32⟩
  | 30 => ⟨S150x8x1, .f32⟩
  | 31 => ⟨S150x8, .f32⟩
  | 32 => ⟨S150x1x8, .f32⟩
  | 33 => ⟨S150x8x1, .f32⟩
  | 34 => ⟨S150x8, .f32⟩
  | 35 => ⟨S1x150x8, .f32⟩
  | 36 => ⟨S150x150x8, .f32⟩
  | 37 => ⟨S150x150x8, .f32⟩
  | 38 => ⟨S150x150x8, .f32⟩
  | 39 => ⟨S150x8x1, .f32⟩
  | 40 => ⟨S150x8, .f32⟩
  | 41 => ⟨S150x1x8, .f32⟩
  | 42 => ⟨S150x8x1, .f32⟩
  | 43 => ⟨S150x8, .f32⟩
  | 44 => ⟨S1x150x8, .f32⟩
  | 45 => ⟨S150x150x8, .f32⟩
  | 46 => ⟨S150x150x8, .f32⟩
  | 47 => ⟨S150x150x8, .f32⟩
  | 48 => ⟨S150x8x1, .f32⟩
  | 49 => ⟨S150x8, .f32⟩
  | 50 => ⟨S150x1x8, .f32⟩
  | 51 => ⟨S150x8x1, .f32⟩
  | 52 => ⟨S150x8, .f32⟩
  | 53 => ⟨S1x150x8, .f32⟩
  | 54 => ⟨S150x150x8, .f32⟩
  | 55 => ⟨S150x150x8, .f32⟩
  | 56 => ⟨S150x150x8, .f32⟩
  | 57 => ⟨S150x8x1, .f32⟩
  | 58 => ⟨S150x8, .f32⟩
  | 59 => ⟨S150x1x8, .f32⟩
  | 60 => ⟨S150x8x1, .f32⟩
  | 61 => ⟨S150x8, .f32⟩
  | 62 => ⟨S1x150x8, .f32⟩
  | 63 => ⟨S150x150x8, .f32⟩
  | 64 => ⟨S150x150x8, .f32⟩
  | 65 => ⟨S150x150x8, .f32⟩
  | 66 => ⟨S150x150x8, .f32⟩
  | 67 => ⟨S_, .f32⟩
  | 68 => ⟨S150x150x8, .f32⟩
  | 69 => ⟨S150x150x8, .f32⟩
  | 70 => ⟨S_, .f32⟩
  | 71 => ⟨S_, .f32⟩
  | 72 => ⟨S150x150x8, .f32⟩
  | 73 => ⟨S150x150x8, .f32⟩
  | 74 => ⟨S150x150x8, .f32⟩
  | 75 => ⟨S_, .f32⟩
  | 76 => ⟨S150x150x8, .f32⟩
  | 77 => ⟨S150x150x8, .f32⟩
  | 78 => ⟨S_, .f32⟩
  | 79 => ⟨S_, .f32⟩
  | 80 => ⟨S150x150x8, .f32⟩
  | 81 => ⟨S150x150x8, .f32⟩
  | 82 => ⟨S150x150x8, .f32⟩
  | 83 => ⟨S150x8x1, .f32⟩
  | 84 => ⟨S150x8, .f32⟩
  | 85 => ⟨S150x8x1, .f32⟩
  | 86 => ⟨S150x8, .f32⟩
  | 87 => ⟨S150x8, .f32⟩
  | 88 => ⟨S_, .f32⟩
  | 89 => ⟨S150x8, .f32⟩
  | 90 => ⟨S150x8, .f32⟩
  | 91 => ⟨S_, .f32⟩
  | 92 => ⟨S_, .f32⟩
  | 93 => ⟨S150x8, .f32⟩
  | 94 => ⟨S150x8, .f32⟩
  | 95 => ⟨S150x8x1, .f32⟩
  | 96 => ⟨S150x8, .f32⟩
  | 97 => ⟨S150x8x1, .f32⟩
  | 98 => ⟨S150x8, .f32⟩
  | 99 => ⟨S150x8, .f32⟩
  | 100 => ⟨S_, .f32⟩
  | 101 => ⟨S150x8, .f32⟩
  | 102 => ⟨S150x8, .f32⟩
  | 103 => ⟨S_, .f32⟩
  | 104 => ⟨S_, .f32⟩
  | 105 => ⟨S150x8, .f32⟩
  | 106 => ⟨S150x8, .f32⟩
  | 107 => ⟨S150x8, .f32⟩
  | 108 => ⟨S150x8x1, .f32⟩
  | 109 => ⟨S150x8, .f32⟩
  | 110 => ⟨S150x8x1, .f32⟩
  | 111 => ⟨S150x8, .f32⟩
  | 112 => ⟨S150x8, .f32⟩
  | 113 => ⟨S_, .f32⟩
  | 114 => ⟨S150x8, .f32⟩
  | 115 => ⟨S150x8, .f32⟩
  | 116 => ⟨S_, .f32⟩
  | 117 => ⟨S_, .f32⟩
  | 118 => ⟨S150x8, .f32⟩
  | 119 => ⟨S150x8, .f32⟩
  | 120 => ⟨S150x8x1, .f32⟩
  | 121 => ⟨S150x8, .f32⟩
  | 122 => ⟨S150x8x1, .f32⟩
  | 123 => ⟨S150x8, .f32⟩
  | 124 => ⟨S150x8, .f32⟩
  | 125 => ⟨S_, .f32⟩
  | 126 => ⟨S150x8, .f32⟩
  | 127 => ⟨S150x8, .f32⟩
  | _ => ⟨S512x150x64, .f32⟩

abbrev hbmTy0_1 (i : Nat) : BufTy := match i % 128 with
  | 0 => ⟨S_, .f32⟩
  | 1 => ⟨S_, .f32⟩
  | 2 => ⟨S150x8, .f32⟩
  | 3 => ⟨S150x8, .f32⟩
  | 4 => ⟨S150x8, .f32⟩
  | 5 => ⟨S150x1x8, .f32⟩
  | 6 => ⟨S1x150x8, .f32⟩
  | 7 => ⟨S150x150x8, .f32⟩
  | 8 => ⟨S150x150x8, .f32⟩
  | 9 => ⟨S150x150x8, .f32⟩
  | 10 => ⟨S150x150x8, .f32⟩
  | 11 => ⟨S_, .f32⟩
  | 12 => ⟨S150x150x8, .f32⟩
  | 13 => ⟨S150x150x8, .f32⟩
  | 14 => ⟨S150x150x8, .f32⟩
  | 15 => ⟨S_, .f32⟩
  | 16 => ⟨S150x150, .f32⟩
  | 17 => ⟨S_, .f32⟩
  | 18 => ⟨S150x150, .f32⟩
  | 19 => ⟨S150x150, .f32⟩
  | 20 => ⟨S_, .f32⟩
  | 21 => ⟨S150x150, .f32⟩
  | 22 => ⟨S150x150, .i1⟩
  | 23 => ⟨S_, .f32⟩
  | 24 => ⟨S_, .f32⟩
  | 25 => ⟨S150x150, .f32⟩
  | 26 => ⟨S150x150, .f32⟩
  | 27 => ⟨S150x1, .f32⟩
  | 28 => ⟨S150x150, .f32⟩
  | 29 => ⟨S150x150, .f32⟩
  | 30 => ⟨S_, .f32⟩
  | 31 => ⟨S150, .f32⟩
  | 32 => ⟨S150, .f32⟩
  | 33 => ⟨S_, .i32⟩
  | 34 => ⟨S_, .i32⟩
  | 35 => ⟨S100, .f32⟩
  | 36 => ⟨S100, .i32⟩
  | _ => ⟨S512x150x64, .f32⟩

abbrev hbmTy (i : Nat) : BufTy := match i / 128 with
  | 0 => hbmTy0_0 i
  | 1 => hbmTy0_1 i
  | _ => ⟨S512x150x64, .f32⟩

abbrev bufTy : (tb : Table) → Fin (tcTables nBuf tb) → BufTy
  | .hbm, ⟨i, _⟩ => hbmTy i
  | _, _ => ⟨S512x150x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_while0c_c_4 : Ref sig .tc := ⟨.hbm, 13, rfl⟩
abbrev main_while0c_v6 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_v0 : Ref sig .tc := ⟨.hbm, 17, rfl⟩
abbrev main_while0b_v6 : Ref sig .tc := ⟨.hbm, 18, rfl⟩
abbrev main_while0b_call1_c : Ref sig .tc := ⟨.hbm, 19, rfl⟩
abbrev main_while0b_call1_c_0 : Ref sig .tc := ⟨.hbm, 20, rfl⟩
abbrev main_while0b_call1_v0 : Ref sig .tc := ⟨.hbm, 21, rfl⟩
abbrev main_while0b_v7 : Ref sig .tc := ⟨.hbm, 22, rfl⟩
abbrev main_while0b_call2_c : Ref sig .tc := ⟨.hbm, 23, rfl⟩
abbrev main_while0b_call2_v0 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_v32 : Ref sig .tc := ⟨.hbm, 49, rfl⟩
abbrev main_while0b_v33 : Ref sig .tc := ⟨.hbm, 50, rfl⟩
abbrev main_while0b_v34 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_v46 : Ref sig .tc := ⟨.hbm, 63, rfl⟩
abbrev main_while0b_v47 : Ref sig .tc := ⟨.hbm, 64, rfl⟩
abbrev main_while0b_v48 : Ref sig .tc := ⟨.hbm, 65, rfl⟩
abbrev main_while0b_v49 : Ref sig .tc := ⟨.hbm, 66, rfl⟩
abbrev main_while0b_cst : Ref sig .tc := ⟨.hbm, 67, rfl⟩
abbrev main_while0b_v50 : Ref sig .tc := ⟨.hbm, 68, rfl⟩
abbrev main_while0b_v51 : Ref sig .tc := ⟨.hbm, 69, rfl⟩
abbrev main_while0b_cst_4 : Ref sig .tc := ⟨.hbm, 70, rfl⟩
abbrev main_while0b_call3_v0 : Ref sig .tc := ⟨.hbm, 71, rfl⟩
abbrev main_while0b_call3_v1 : Ref sig .tc := ⟨.hbm, 72, rfl⟩
abbrev main_while0b_v52 : Ref sig .tc := ⟨.hbm, 73, rfl⟩
abbrev main_while0b_v53 : Ref sig .tc := ⟨.hbm, 74, rfl⟩
abbrev main_while0b_cst_5 : Ref sig .tc := ⟨.hbm, 75, rfl⟩
abbrev main_while0b_v54 : Ref sig .tc := ⟨.hbm, 76, rfl⟩
abbrev main_while0b_v55 : Ref sig .tc := ⟨.hbm, 77, rfl⟩
abbrev main_while0b_cst_6 : Ref sig .tc := ⟨.hbm, 78, rfl⟩
abbrev main_while0b_call4_v0 : Ref sig .tc := ⟨.hbm, 79, rfl⟩
abbrev main_while0b_call4_v1 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_cst_7 : Ref sig .tc := ⟨.hbm, 88, rfl⟩
abbrev main_while0b_v63 : Ref sig .tc := ⟨.hbm, 89, rfl⟩
abbrev main_while0b_v64 : Ref sig .tc := ⟨.hbm, 90, rfl⟩
abbrev main_while0b_cst_8 : Ref sig .tc := ⟨.hbm, 91, rfl⟩
abbrev main_while0b_call5_v0 : Ref sig .tc := ⟨.hbm, 92, rfl⟩
abbrev main_while0b_call5_v1 : Ref sig .tc := ⟨.hbm, 93, rfl⟩
abbrev main_while0b_v65 : Ref sig .tc := ⟨.hbm, 94, rfl⟩
abbrev main_while0b_v66 : Ref sig .tc := ⟨.hbm, 95, rfl⟩
abbrev main_while0b_v67 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_cst_9 : Ref sig .tc := ⟨.hbm, 100, rfl⟩
abbrev main_while0b_v71 : Ref sig .tc := ⟨.hbm, 101, rfl⟩
abbrev main_while0b_v72 : Ref sig .tc := ⟨.hbm, 102, rfl⟩
abbrev main_while0b_cst_10 : Ref sig .tc := ⟨.hbm, 103, rfl⟩
abbrev main_while0b_call6_v0 : Ref sig .tc := ⟨.hbm, 104, rfl⟩
abbrev main_while0b_call6_v1 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_cst_11 : Ref sig .tc := ⟨.hbm, 113, rfl⟩
abbrev main_while0b_v80 : Ref sig .tc := ⟨.hbm, 114, rfl⟩
abbrev main_while0b_v81 : Ref sig .tc := ⟨.hbm, 115, rfl⟩
abbrev main_while0b_cst_12 : Ref sig .tc := ⟨.hbm, 116, rfl⟩
abbrev main_while0b_call7_v0 : Ref sig .tc := ⟨.hbm, 117, rfl⟩
abbrev main_while0b_call7_v1 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_cst_13 : Ref sig .tc := ⟨.hbm, 125, rfl⟩
abbrev main_while0b_v88 : Ref sig .tc := ⟨.hbm, 126, rfl⟩
abbrev main_while0b_v89 : Ref sig .tc := ⟨.hbm, 127, rfl⟩
abbrev main_while0b_cst_14 : Ref sig .tc := ⟨.hbm, 128, rfl⟩
abbrev main_while0b_call8_v0 : Ref sig .tc := ⟨.hbm, 129, rfl⟩
abbrev main_while0b_call8_v1 : Ref sig .tc := ⟨.hbm, 130, rfl⟩
abbrev main_while0b_v90 : Ref sig .tc := ⟨.hbm, 131, rfl⟩
abbrev main_while0b_v91 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_v97 : Ref sig .tc := ⟨.hbm, 138, rfl⟩
abbrev main_while0b_cst_15 : Ref sig .tc := ⟨.hbm, 139, rfl⟩
abbrev main_while0b_v98 : Ref sig .tc := ⟨.hbm, 140, rfl⟩
abbrev main_while0b_v99 : Ref sig .tc := ⟨.hbm, 141, rfl⟩
abbrev main_while0b_v100 : Ref sig .tc := ⟨.hbm, 142, rfl⟩
abbrev main_while0b_cst_16 : Ref sig .tc := ⟨.hbm, 143, rfl⟩
abbrev main_while0b_v101 : Ref sig .tc := ⟨.hbm, 144, rfl⟩
abbrev main_while0b_cst_17 : Ref sig .tc := ⟨.hbm, 145, rfl⟩
abbrev main_while0b_v102 : Ref sig .tc := ⟨.hbm, 146, rfl⟩
abbrev main_while0b_v103 : Ref sig .tc := ⟨.hbm, 147, rfl⟩
abbrev main_while0b_cst_18 : Ref sig .tc := ⟨.hbm, 148, rfl⟩
abbrev main_while0b_v104 : Ref sig .tc := ⟨.hbm, 149, rfl⟩
abbrev main_while0b_v105 : Ref sig .tc := ⟨.hbm, 150, rfl⟩
abbrev main_while0b_cst_19 : Ref sig .tc := ⟨.hbm, 151, rfl⟩
abbrev main_while0b_call9_v0 : Ref sig .tc := ⟨.hbm, 152, rfl⟩
abbrev main_while0b_call9_v1 : Ref sig .tc := ⟨.hbm, 153, rfl⟩
abbrev main_while0b_v106 : Ref sig .tc := ⟨.hbm, 154, rfl⟩
abbrev main_while0b_v107 : Ref sig .tc := ⟨.hbm, 155, rfl⟩
abbrev main_while0b_v108 : Ref sig .tc := ⟨.hbm, 156, rfl⟩
abbrev main_while0b_v109 : Ref sig .tc := ⟨.hbm, 157, rfl⟩
abbrev main_while0b_cst_20 : Ref sig .tc := ⟨.hbm, 158, rfl⟩
abbrev main_while0b_v110 : Ref sig .tc := ⟨.hbm, 159, rfl⟩
abbrev main_while0b_v111 : Ref sig .tc := ⟨.hbm, 160, rfl⟩
abbrev main_while0b_c_21 : Ref sig .tc := ⟨.hbm, 161, rfl⟩
abbrev main_while0b_v112 : Ref sig .tc := ⟨.hbm, 162, rfl⟩
abbrev main_values : Ref sig .tc := ⟨.hbm, 163, rfl⟩
abbrev main_indices : Ref sig .tc := ⟨.hbm, 164, rfl⟩

abbrev nD : Nat := 1
abbrev τ : Topo := Topo.v7x

variable {F : FTy → Type} [FloatOps F]

abbrev main_while0_count : Scf.Loop 32 := ⟨0#32, 511#32, 1#32⟩
-- ==== Proof.Tube.KI.Step.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The pairwise intersection areas of a column of boxes with a row of boxes. -/
def interOf (a0 a1 a2 a3 : FVec F S152x1 .f32) (b0 b1 b2 b3 : FVec F S1x256 .f32) : FVec F S152x256 .f32 :=
  mulf
    (maximumf (addf (subf (minimumf (broadcastTo S152x256 a2 broadcasts_S152x1_S152x256) (broadcastTo S152x256 b2 broadcasts_S1x256_S152x256))
        (maximumf (broadcastTo S152x256 a0 broadcasts_S152x1_S152x256) (broadcastTo S152x256 b0 broadcasts_S1x256_S152x256)))
      (broadcast S152x256 (Scalar.ofBits .f32 0x3F800000#32))) (broadcast S152x256 (Scalar.ofBits .f32 0x00000000#32)))
    (maximumf (addf (subf (minimumf (broadcastTo S152x256 a3 broadcasts_S152x1_S152x256) (broadcastTo S152x256 b3 broadcasts_S1x256_S152x256))
        (maximumf (broadcastTo S152x256 a1 broadcasts_S152x1_S152x256) (broadcastTo S152x256 b1 broadcasts_S1x256_S152x256)))
      (broadcast S152x256 (Scalar.ofBits .f32 0x3F800000#32))) (broadcast S152x256 (Scalar.ofBits .f32 0x00000000#32)))

/-- The areas of a vector of boxes of any shape. -/
def areaOf (s : Shape) (a0 a1 a2 a3 : FVec F s .f32) : FVec F s .f32 :=
  mulf (maximumf (addf (subf a2 a0) (broadcast s (Scalar.ofBits .f32 0x3F800000#32))) (broadcast s (Scalar.ofBits .f32 0x00000000#32)))
    (maximumf (addf (subf a3 a1) (broadcast s (Scalar.ofBits .f32 0x3F800000#32))) (broadcast s (Scalar.ofBits .f32 0x00000000#32)))

/-- The pairwise intersection over union of a column of boxes with a row of boxes. -/
def boxIou (a0 a1 a2 a3 : FVec F S152x1 .f32) (b0 b1 b2 b3 : FVec F S1x256 .f32) : FVec F S152x256 .f32 :=
  divf (interOf a0 a1 a2 a3 b0 b1 b2 b3)
    (maximumf (subf (addf (broadcastTo S152x256 (areaOf S152x1 a0 a1 a2 a3) broadcasts_S152x1_S152x256)
        (broadcastTo S152x256 (areaOf S1x256 b0 b1 b2 b3) broadcasts_S1x256_S152x256)) (interOf a0 a1 a2 a3 b0 b1 b2 b3))
      (broadcast S152x256 (Scalar.ofBits .f32 0x322BCC77#32)))

/-- Coordinate `k` of every box of the column block, as a loaded column. -/
def colC (A : Fin 32 → Vec F S1x152x1 .f32) (k : Fin 32) : FVec F S152x1 .f32 := shapeCast S152x1 (A k) shapeCasts_S1x152x1_S152x1
/-- Coordinate `k` of every box of the row block, as a loaded row. -/
def rowC (B : Fin 32 → Vec F S1x1x256 .f32) (k : Fin 32) : FVec F S1x256 .f32 := shapeCast S1x256 (B k) shapeCasts_S1x1x256_S1x256

/-- The intersection over union in the frame whose four coordinates start at `k`. -/
def frameIou (A : Fin 32 → Vec F S1x152x1 .f32) (B : Fin 32 → Vec F S1x1x256 .f32) (k0 k1 k2 k3 : Fin 32) : FVec F S152x256 .f32 :=
  boxIou (colC A k0) (colC A k1) (colC A k2) (colC A k3) (rowC B k0) (rowC B k1) (rowC B k2) (rowC B k3)

/-- The mean over the eight frames, as the kernel accumulates it. -/
def overlap (A : Fin 32 → Vec F S1x152x1 .f32) (B : Fin 32 → Vec F S1x1x256 .f32) : FVec F S152x256 .f32 :=
  mulf (addf (addf (addf (addf (addf (addf (addf (addf (broadcast S152x256 (Scalar.ofBits .f32 0x00000000#32))
    (frameIou A B 0 1 2 3)) (frameIou A B 4 5 6 7)) (frameIou A B 8 9 10 11)) (frameIou A B 12 13 14 15))
    (frameIou A B 16 17 18 19)) (frameIou A B 20 21 22 23)) (frameIou A B 24 25 26 27)) (frameIou A B 28 29 30 31))
    (broadcast S152x256 (Scalar.ofBits .f32 0x3E000000#32))

/-- The connection strengths: an overlap above one half is kept, another is zero. -/
def connect (ov : FVec F S152x256 .f32) : FVec F S152x256 .f32 :=
  select (cmpf .ogt ov (broadcast S152x256 (Scalar.ofBits .f32 0x3F000000#32))) ov (broadcast S152x256 (Scalar.ofBits .f32 0x00000000#32))

/-- A row kept on its first 150 lanes and set to the mask value on the others. -/
def masked (w : FVec F S1x256 .f32) : FVec F S1x256 .f32 :=
  select (cmpi .slt (iota .tc S1x256 32 [1] iota_S1x256_d1_w32) (broadcast S1x256 150#32)) w (broadcast S1x256 (Named.named κ "mask" 0xF149F2CA#32 : F .f32))

/-- A score row as the column of its first 152 lanes. -/
def toCol (s : FVec F S1x256 .f32) : FVec F S152x1 .f32 :=
  extractStridedSlice S152x1 ![0, 0] (transpose S256x1 [1, 0] s transposes_S1x256_p1_0_S256x1) slices_S256x1_o0_0_S152x1

/-- One scan step: the best connected predecessor of every lane, plus the lane's own actioness. -/
def scanStep (s : FVec F S1x256 .f32) (A : Fin 32 → Vec F S1x152x1 .f32) (B : Fin 32 → Vec F S1x1x256 .f32) (act : Vec F S1x1x256 .f32) : FVec F S1x256 .f32 :=
  masked (addf (shapeCast S1x256 (multiReduction .maximumf [0] S256
      (addf (broadcastTo S152x256 (toCol s) broadcasts_S152x1_S152x256) (connect (overlap A B)))
      0xFF800000#32 reduces_S152x256_S256 (.inl rfl) rfl) shapeCasts_S256_S1x256)
    (shapeCast S1x256 act shapeCasts_S1x1x256_S1x256))

/-- The score row a grid point starts from: the masked first actioness row at point 0, the carried row afterwards. -/
def startRow (i : grid0.Coords) (act0 : Vec F S1x1x256 .f32) (xs : Vec F S1x256 .f32) : FVec F S1x256 .f32 :=
  Scalar.select (Scalar.cmpi .eq (BitVec.ofNat 32 (i 0).val) 0#32) (masked (shapeCast S1x256 act0 shapeCasts_S1x1x256_S1x256)) xs

/-- What a grid point leaves in the score row: two scan steps, or one where the second would be past the last clip. -/
def pointRow (i : grid0.Coords) (A0 A1 : Fin 32 → Vec F S1x152x1 .f32) (B0 B1 : Fin 32 → Vec F S1x1x256 .f32)
    (act1 act2 act0 : Vec F S1x1x256 .f32) (xs : Vec F S1x256 .f32) : FVec F S1x256 .f32 :=
  shapeCast S1x256 (Scalar.select (Scalar.cmpi .slt (Scalar.addi (Scalar.muli 2#32 (BitVec.ofNat 32 (i 0).val)) 1#32) 511#32)
    (scanStep (scanStep (startRow i act0 xs) A0 B0 act1) A1 B1 act2)
    (scanStep (startRow i act0 xs) A0 B0 act1)) shapeCasts_S1x256_S1x256

/-- At point 0 the carried row is not used. -/
theorem startRow_first (i : grid0.Coords) (hi : (i 0).val = 0) (act0 : Vec F S1x1x256 .f32) (xs : Vec F S1x256 .f32) :
    startRow i act0 xs = masked (shapeCast S1x256 act0 shapeCasts_S1x1x256_S1x256) := by
  unfold startRow; rw [hi]; rfl

/-- At a later point the carried row is used. -/
theorem startRow_later (i : grid0.Coords) (hi : (i 0).val ≠ 0) (act0 : Vec F S1x1x256 .f32) (xs : Vec F S1x256 .f32) :
    startRow i act0 xs = xs := by
  unfold startRow
  have h1 : (i 0).val < 256 := (i 0).isLt
  have h : Scalar.cmpi .eq (BitVec.ofNat 32 (i 0).val) 0#32 = 0#1 := by word_cmp
  rw [h]; rfl

/-- The column of coordinate `k` of a column block. -/
def colOf (x : Vec F S1x152x32 .f32) (k : Fin 32) : Vec F S1x152x1 .f32 := fun y => x (fun | 0 => y 0 | 1 => y 1 | 2 => k)
/-- The row of coordinate `k` of a row block. -/
def rowOf (x : Vec F S1x32x256 .f32) (k : Fin 32) : Vec F S1x1x256 .f32 := fun y => x (fun | 0 => y 0 | 1 => k | 2 => y 2)

/-- What a grid point leaves in the score row, from its blocks. -/
def blockRow (i : grid0.Coords) (x0 x1 : Vec F S1x152x32 .f32) (x2 x3 : Vec F S1x32x256 .f32) (x4 x5 x6 : Vec F S1x1x256 .f32) (xs : Vec F S1x256 .f32) : FVec F S1x256 .f32 :=
  pointRow i (colOf x0) (colOf x1) (rowOf x2) (rowOf x3) x4 x5 x6 xs

end Cert.KernelIdeal.Hand

end
-- ==== Proof.Tube.KI.RunMid.lean ====
module

public import proofs.«01_k».proof.Proof.Tube.KI.Step

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- One run of the body at a point that is NOT the last (the top-k branch skipped), on whole staging memrefs:
    the inputs and both outputs come back untouched, the scratch row comes back with the piece the body stored. -/
def runMid (c : Dev nD) (i : grid0.Coords) (arg1 : Memref sig .tc .vmem S1x152x32 .f32) (harg1 : arg1.IsWhole) (arg2 : Memref sig .tc .vmem S1x152x32 .f32) (harg2 : arg2.IsWhole) (arg3 : Memref sig .tc .vmem S1x32x256 .f32) (harg3 : arg3.IsWhole) (arg4 : Memref sig .tc .vmem S1x32x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S104x1 .f32) (harg8 : arg8.IsWhole) (arg9 : Memref sig .tc .vmem S104x1 .i32) (harg9 : arg9.IsWhole) (arg10 : Memref sig .tc .vmem S1x256 .f32) (harg10 : arg10.IsWhole) (hc : ¬k0_cond1 i = 1#1)
    (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (xs0 : Vec F S1x256 .f32) :
    { LS : List (View.Piece (Elt F) S1x256 .f32) //
      ∀ (xi7 : Vec F S104x1 .f32) (xi8 : Vec F S104x1 .i32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xi8 ∗ (∃ f, arg10.view.loc (c : Thread nD τ) ↦[arg10.view.set]{fullShare} arg10.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, fun xi7 xi8 E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact HS

end Cert.KernelIdeal.Hand

end
-- ==== Proof.Tube.KI.RunLast.lean ====
module

public import proofs.«01_k».proof.Proof.Tube.KI.RunMid

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- One run of the body at the LAST point (the top-k branch taken), on whole staging memrefs: the inputs
    come back as they were, the scratch row and both outputs come back with the pieces the body stored. -/
def runLast (c : Dev nD) (i : grid0.Coords) (arg1 : Memref sig .tc .vmem S1x152x32 .f32) (harg1 : arg1.IsWhole) (arg2 : Memref sig .tc .vmem S1x152x32 .f32) (harg2 : arg2.IsWhole) (arg3 : Memref sig .tc .vmem S1x32x256 .f32) (harg3 : arg3.IsWhole) (arg4 : Memref sig .tc .vmem S1x32x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S104x1 .f32) (harg8 : arg8.IsWhole) (arg9 : Memref sig .tc .vmem S104x1 .i32) (harg9 : arg9.IsWhole) (arg10 : Memref sig .tc .vmem S1x256 .f32) (harg10 : arg10.IsWhole) (hc : k0_cond1 i = 1#1)
    (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (xs0 : Vec F S1x256 .f32) :
    Σ' (L7 : List (View.Piece (Elt F) S104x1 .f32)), Σ' (L8 : List (View.Piece (Elt F) S104x1 .i32)), { LS : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg10.eq_unread hfs0
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact HS

end Cert.KernelIdeal.Hand

end
-- ==== Proof.Tube.KI.Pieces.lean ====
module

public import proofs.«01_k».proof.Proof.Tube.KI.RunLast
public import Idealize.ShloMosaic.Lib.WholeRead
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- A one-column rectangle of a column block lies inside it. -/
theorem inbCol (k : Fin 32) : ∀ a, (![0, 0, k.val] : Fin 3 → Nat) a + S1x152x1.size a ≤ S1x152x32.size a := by
  intro a; have := k.isLt; fin_cases a <;> simp [S1x152x1, S1x152x32] <;> omega
/-- A one-row rectangle of a row block lies inside it. -/
theorem inbRow (k : Fin 32) : ∀ a, (![0, k.val, 0] : Fin 3 → Nat) a + S1x1x256.size a ≤ S1x32x256.size a := by
  intro a; have := k.isLt; fin_cases a <;> simp [S1x1x256, S1x32x256] <;> omega

/-- Loading the column of coordinate `k` from a whole column block. -/
theorem load_col (arg : Memref sig .tc .vmem S1x152x32 .f32) (h : arg.IsWhole) (x : Vec F S1x152x32 .f32) :
    (fun k : Fin 32 => View.readAt (Elt F) arg.view (Rect.unit (s := S1x152x32) ![0, 0, k.val] S1x152x1.size (inbCol k)).toLoadRect (h.unread x)) = colOf x :=
  funext fun k => funext fun y => (h.readAt_unread x _ y).trans (congrArg x (funext fun a => by
    apply Fin.ext
    fin_cases a
    · show 0 + 1 * (y 0).val = (y 0).val; omega
    · show 0 + 1 * (y 1).val = (y 1).val; omega
    · show k.val + 1 * (y 2).val = k.val
      have : (y 2).val < 1 := (y 2).isLt
      omega))

/-- Loading the row of coordinate `k` from a whole row block. -/
theorem load_row (arg : Memref sig .tc .vmem S1x32x256 .f32) (h : arg.IsWhole) (x : Vec F S1x32x256 .f32) :
    (fun k : Fin 32 => View.readAt (Elt F) arg.view (Rect.unit (s := S1x32x256) ![0, k.val, 0] S1x1x256.size (inbRow k)).toLoadRect (h.unread x)) = rowOf x :=
  funext fun k => funext fun y => (h.readAt_unread x _ y).trans (congrArg x (funext fun a => by
    apply Fin.ext
    fin_cases a
    · show 0 + 1 * (y 0).val = (y 0).val; omega
    · show k.val + 1 * (y 1).val = k.val
      have : (y 1).val < 1 := (y 1).isLt
      omega
    · show 0 + 1 * (y 2).val = (y 2).val; omega))

/-- Loading a whole memref through the rectangle of its own sizes gives its contents. -/
theorem load_full {s : Shape} {e : EltTy} (arg : Memref sig .tc .vmem s e) (h : arg.IsWhole) (x : Vec F s e) {off : Fin s.rank → ℕ}
    (inb : ∀ a, off a + s.size a ≤ s.size a) :
    View.readAt (Elt F) arg.view (Rect.unit off s.size inb).toLoadRect (h.unread x) = x := by
  rw [View.readAt_full]; exact h.read_unread x

set_option maxHeartbeats 2000000 in
/-- At a point that is not the last the body's one piece for the score row is `blockRow`, stored whole. -/
theorem mid_pieces (c : Dev nD) (i : grid0.Coords) (arg1 : Memref sig .tc .vmem S1x152x32 .f32) (harg1 : arg1.IsWhole) (arg2 : Memref sig .tc .vmem S1x152x32 .f32) (harg2 : arg2.IsWhole) (arg3 : Memref sig .tc .vmem S1x32x256 .f32) (harg3 : arg3.IsWhole) (arg4 : Memref sig .tc .vmem S1x32x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S104x1 .f32) (harg8 : arg8.IsWhole) (arg9 : Memref sig .tc .vmem S104x1 .i32) (harg9 : arg9.IsWhole) (arg10 : Memref sig .tc .vmem S1x256 .f32) (harg10 : arg10.IsWhole) (hc : ¬k0_cond1 i = 1#1)
    (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (xs0 : Vec F S1x256 .f32) :
    (runMid c i arg1 harg1 arg2 harg2 arg3 harg3 arg4 harg4 arg5 harg5 arg6 harg6 arg7 harg7 arg8 harg8 arg9 harg9 arg10 harg10 hc x0 x1 x2 x3 x4 x5 x6 xs0).1 = [⟨Rect.unit (s := S1x256) ![0, 0] S1x256.size inb_S1x256_S1x256_0_0, blockRow i x0 x1 x2 x3 x4 x5 x6 xs0⟩] := by
  have e : (runMid c i arg1 harg1 arg2 harg2 arg3 harg3 arg4 harg4 arg5 harg5 arg6 harg6 arg7 harg7 arg8 harg8 arg9 harg9 arg10 harg10 hc x0 x1 x2 x3 x4 x5 x6 xs0).1 = [⟨Rect.unit (s := S1x256) ![0, 0] S1x256.size inb_S1x256_S1x256_0_0,
      pointRow i
        (fun k : Fin 32 => View.readAt (Elt F) arg1.view (Rect.unit (s := S1x152x32) ![0, 0, k.val] S1x152x1.size (inbCol k)).toLoadRect (harg1.unread x0))
        (fun k : Fin 32 => View.readAt (Elt F) arg2.view (Rect.unit (s := S1x152x32) ![0, 0, k.val] S1x152x1.size (inbCol k)).toLoadRect (harg2.unread x1))
        (fun k : Fin 32 => View.readAt (Elt F) arg3.view (Rect.unit (s := S1x32x256) ![0, k.val, 0] S1x1x256.size (inbRow k)).toLoadRect (harg3.unread x2))
        (fun k : Fin 32 => View.readAt (Elt F) arg4.view (Rect.unit (s := S1x32x256) ![0, k.val, 0] S1x1x256.size (inbRow k)).toLoadRect (harg4.unread x3))
        (View.readAt (Elt F) arg5.view (Rect.unit (s := S1x1x256) ![0, 0, 0] S1x1x256.size inb_S1x1x256_S1x1x256_0_0_0).toLoadRect (harg5.unread x4))
        (View.readAt (Elt F) arg6.view (Rect.unit (s := S1x1x256) ![0, 0, 0] S1x1x256.size inb_S1x1x256_S1x1x256_0_0_0).toLoadRect (harg6.unread x5))
        (View.readAt (Elt F) arg7.view (Rect.unit (s := S1x1x256) ![0, 0, 0] S1x1x256.size inb_S1x1x256_S1x1x256_0_0_0).toLoadRect (harg7.unread x6))
        (View.readAt (Elt F) arg10.view (Rect.unit (s := S1x256) ![0, 0] S1x256.size inb_S1x256_S1x256_0_0).toLoadRect (harg10.unread xs0))⟩] := by
    sl_kernel_rfl
  rw [e, load_col, load_col, load_row, load_row, load_full, load_full, load_full, load_full]
  rfl

set_option maxHeartbeats 2000000 in
/-- At the last point the body's piece for the score row is `blockRow` again. -/
theorem last_pieces (c : Dev nD) (i : grid0.Coords) (arg1 : Memref sig .tc .vmem S1x152x32 .f32) (harg1 : arg1.IsWhole) (arg2 : Memref sig .tc .vmem S1x152x32 .f32) (harg2 : arg2.IsWhole) (arg3 : Memref sig .tc .vmem S1x32x256 .f32) (harg3 : arg3.IsWhole) (arg4 : Memref sig .tc .vmem S1x32x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S104x1 .f32) (harg8 : arg8.IsWhole) (arg9 : Memref sig .tc .vmem S104x1 .i32) (harg9 : arg9.IsWhole) (arg10 : Memref sig .tc .vmem S1x256 .f32) (harg10 : arg10.IsWhole) (hc : k0_cond1 i = 1#1)
    (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (xs0 : Vec F S1x256 .f32) :
    (runLast c i arg1 harg1 arg2 harg2 arg3 harg3 arg4 harg4 arg5 harg5 arg6 harg6 arg7 harg7 arg8 harg8 arg9 harg9 arg10 harg10 hc x0 x1 x2 x3 x4 x5 x6 xs0).2.2.1 = [⟨Rect.unit (s := S1x256) ![0, 0] S1x256.size inb_S1x256_S1x256_0_0, blockRow i x0 x1 x2 x3 x4 x5 x6 xs0⟩] := by
  have e : (runLast c i arg1 harg1 arg2 harg2 arg3 harg3 arg4 harg4 arg5 harg5 arg6 harg6 arg7 harg7 arg8 harg8 arg9 harg9 arg10 harg10 hc x0 x1 x2 x3 x4 x5 x6 xs0).2.2.1 = [⟨Rect.unit (s := S1x256) ![0, 0] S1x256.size inb_S1x256_S1x256_0_0, pointRow i
        (fun k : Fin 32 => View.readAt (Elt F) arg1.view (Rect.unit (s := S1x152x32) ![0, 0, k.val] S1x152x1.size (inbCol k)).toLoadRect (harg1.unread x0))
        (fun k : Fin 32 => View.readAt (Elt F) arg2.view (Rect.unit (s := S1x152x32) ![0, 0, k.val] S1x152x1.size (inbCol k)).toLoadRect (harg2.unread x1))
        (fun k : Fin 32 => View.readAt (Elt F) arg3.view (Rect.unit (s := S1x32x256) ![0, k.val, 0] S1x1x256.size (inbRow k)).toLoadRect (harg3.unread x2))
        (fun k : Fin 32 => View.readAt (Elt F) arg4.view (Rect.unit (s := S1x32x256) ![0, k.val, 0] S1x1x256.size (inbRow k)).toLoadRect (harg4.unread x3))
        (View.readAt (Elt F) arg5.view (Rect.unit (s := S1x1x256) ![0, 0, 0] S1x1x256.size inb_S1x1x256_S1x1x256_0_0_0).toLoadRect (harg5.unread x4))
        (View.readAt (Elt F) arg6.view (Rect.unit (s := S1x1x256) ![0, 0, 0] S1x1x256.size inb_S1x1x256_S1x1x256_0_0_0).toLoadRect (harg6.unread x5))
        (View.readAt (Elt F) arg7.view (Rect.unit (s := S1x1x256) ![0, 0, 0] S1x1x256.size inb_S1x1x256_S1x1x256_0_0_0).toLoadRect (harg7.unread x6))
        (View.readAt (Elt F) arg10.view (Rect.unit (s := S1x256) ![0, 0] S1x256.size inb_S1x256_S1x256_0_0).toLoadRect (harg10.unread xs0))⟩] := by
    sl_kernel_rfl
  rw [e, load_col, load_col, load_row, load_row, load_full, load_full, load_full, load_full]
  rfl

set_option maxHeartbeats 2000000 in
/-- At the last point the score output is the rank selection over the row just stored. -/
theorem last_scores (c : Dev nD) (i : grid0.Coords) (arg1 : Memref sig .tc .vmem S1x152x32 .f32) (harg1 : arg1.IsWhole) (arg2 : Memref sig .tc .vmem S1x152x32 .f32) (harg2 : arg2.IsWhole) (arg3 : Memref sig .tc .vmem S1x32x256 .f32) (harg3 : arg3.IsWhole) (arg4 : Memref sig .tc .vmem S1x32x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S104x1 .f32) (harg8 : arg8.IsWhole) (arg9 : Memref sig .tc .vmem S104x1 .i32) (harg9 : arg9.IsWhole) (arg10 : Memref sig .tc .vmem S1x256 .f32) (harg10 : arg10.IsWhole) (hc : k0_cond1 i = 1#1)
    (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (xs0 : Vec F S1x256 .f32) :
    (runLast c i arg1 harg1 arg2 harg2 arg3 harg3 arg4 harg4 arg5 harg5 arg6 harg6 arg7 harg7 arg8 harg8 arg9 harg9 arg10 harg10 hc x0 x1 x2 x3 x4 x5 x6 xs0).1 = [⟨Rect.unit (s := S104x1) ![0, 0] S104x1.size inb_S104x1_S104x1_0_0, k0_pay3 (blockRow i x0 x1 x2 x3 x4 x5 x6 xs0)⟩] := by
  have e : (runLast c i arg1 harg1 arg2 harg2 arg3 harg3 arg4 harg4 arg5 harg5 arg6 harg6 arg7 harg7 arg8 harg8 arg9 harg9 arg10 harg10 hc x0 x1 x2 x3 x4 x5 x6 xs0).1 = [⟨Rect.unit (s := S104x1) ![0, 0] S104x1.size inb_S104x1_S104x1_0_0, k0_pay3 (arg10.view.readCov (runLast c i arg1 harg1 arg2 harg2 arg3 harg3 arg4 harg4 arg5 harg5 arg6 harg6 arg7 harg7 arg8 harg8 arg9 harg9 arg10 harg10 hc x0 x1 x2 x3 x4 x5 x6 xs0).2.2.1 (Rect.unit (s := S1x256) ![0, 0] S1x256.size inb_S1x256_S1x256_0_0).toLoadRect)⟩] := by
    sl_kernel_rfl
  rw [e, last_pieces, View.readCov_full]

set_option maxHeartbeats 2000000 in
/-- At the last point the position output is the rank selection over the row just stored. -/
theorem last_positions (c : Dev nD) (i : grid0.Coords) (arg1 : Memref sig .tc .vmem S1x152x32 .f32) (harg1 : arg1.IsWhole) (arg2 : Memref sig .tc .vmem S1x152x32 .f32) (harg2 : arg2.IsWhole) (arg3 : Memref sig .tc .vmem S1x32x256 .f32) (harg3 : arg3.IsWhole) (arg4 : Memref sig .tc .vmem S1x32x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S104x1 .f32) (harg8 : arg8.IsWhole) (arg9 : Memref sig .tc .vmem S104x1 .i32) (harg9 : arg9.IsWhole) (arg10 : Memref sig .tc .vmem S1x256 .f32) (harg10 : arg10.IsWhole) (hc : k0_cond1 i = 1#1)
    (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (xs0 : Vec F S1x256 .f32) :
    (runLast c i arg1 harg1 arg2 harg2 arg3 harg3 arg4 harg4 arg5 harg5 arg6 harg6 arg7 harg7 arg8 harg8 arg9 harg9 arg10 harg10 hc x0 x1 x2 x3 x4 x5 x6 xs0).2.1 = [⟨Rect.unit (s := S104x1) ![0, 0] S104x1.size inb_S104x1_S104x1_0_0, k0_pay4 (blockRow i x0 x1 x2 x3 x4 x5 x6 xs0)⟩] := by
  have e : (runLast c i arg1 harg1 arg2 harg2 arg3 harg3 arg4 harg4 arg5 harg5 arg6 harg6 arg7 harg7 arg8 harg8 arg9 harg9 arg10 harg10 hc x0 x1 x2 x3 x4 x5 x6 xs0).2.1 = [⟨Rect.unit (s := S104x1) ![0, 0] S104x1.size inb_S104x1_S104x1_0_0, k0_pay4 (arg10.view.readCov (runLast c i arg1 harg1 arg2 harg2 arg3 harg3 arg4 harg4 arg5 harg5 arg6 harg6 arg7 harg7 arg8 harg8 arg9 harg9 arg10 harg10 hc x0 x1 x2 x3 x4 x5 x6 xs0).2.2.1 (Rect.unit (s := S1x256) ![0, 0] S1x256.size inb_S1x256_S1x256_0_0).toLoadRect)⟩] := by
    sl_kernel_rfl
  rw [e, last_pieces, View.readCov_full]

end Cert.KernelIdeal.Hand

end
-- ==== Proof.Tube.KI.Frame.lean ====
module

public import proofs.«01_k».proof.Proof.Tube.KI.Pieces
public import Idealize.ShloMosaic.Lib.Pipeline.FrameSuffix
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The top-k branch is taken at the last point only. -/
theorem last_iff : ∀ t : Fin cfg0.N, k0_cond1 (grid0.coords t) = 1#1 ↔ t.val % 256 = 255 :=
  (fun t => by
    have ht : t.val < 256 := Nat.lt_of_lt_of_eq t.isLt N_0
    have e0 : (grid0.coords t 0).val = t.val / 1 % 256 := Pipeline.Grid.coords_val t 0 (by decide) rfl
    simp only [k0_cond1, e0]
    word_cmp
   : ∀ t : Fin grid0.N, k0_cond1 (grid0.coords t) = 1#1 ↔ t.val % 256 = 255)

/-- The grid coordinate of point `t` is `t`. -/
theorem coord_eq (t : Fin cfg0.N) : (grid0.coords t 0).val = t.val :=
  (fun t => by
    have ht : t.val < 256 := Nat.lt_of_lt_of_eq t.isLt N_0
    have e0 : (grid0.coords t 0).val = t.val / 1 % 256 := Pipeline.Grid.coords_val t 0 (by decide) rfl
    omega : ∀ t : Fin grid0.N, (grid0.coords t 0).val = t.val) t

/-- Window 0 is an input, never idle. -/
theorem live0 : ∀ t : Fin cfg0.N, cfg0.idle 0 (grid0.coords t) = false := fun _ => rfl
/-- Window 1 is an input, never idle. -/
theorem live1 : ∀ t : Fin cfg0.N, cfg0.idle 1 (grid0.coords t) = false := fun _ => rfl
/-- Window 2 is an input, never idle. -/
theorem live2 : ∀ t : Fin cfg0.N, cfg0.idle 2 (grid0.coords t) = false := fun _ => rfl
/-- Window 3 is an input, never idle. -/
theorem live3 : ∀ t : Fin cfg0.N, cfg0.idle 3 (grid0.coords t) = false := fun _ => rfl
/-- Window 4 is an input, never idle. -/
theorem live4 : ∀ t : Fin cfg0.N, cfg0.idle 4 (grid0.coords t) = false := fun _ => rfl
/-- Window 5 is an input, never idle. -/
theorem live5 : ∀ t : Fin cfg0.N, cfg0.idle 5 (grid0.coords t) = false := fun _ => rfl
/-- Window 6 is an input, never idle. -/
theorem live6 : ∀ t : Fin cfg0.N, cfg0.idle 6 (grid0.coords t) = false := fun _ => rfl
/-- Away from the last point output 7 is idle and not written back; at the last point it is live. The same for output 8. -/
theorem idle7 : ∀ t : Fin cfg0.N, ¬k0_cond1 (grid0.coords t) = 1#1 → cfg0.idle 7 (grid0.coords t) = true := by decide +kernel
theorem still7 : ∀ t : Fin cfg0.N, ¬k0_cond1 (grid0.coords t) = 1#1 → (cfg0.win 7).flush t = false := by decide +kernel
theorem live7 : ∀ t : Fin cfg0.N, k0_cond1 (grid0.coords t) = 1#1 → cfg0.idle 7 (grid0.coords t) = false := by decide +kernel
theorem idle8 : ∀ t : Fin cfg0.N, ¬k0_cond1 (grid0.coords t) = 1#1 → cfg0.idle 8 (grid0.coords t) = true := by decide +kernel
theorem still8 : ∀ t : Fin cfg0.N, ¬k0_cond1 (grid0.coords t) = 1#1 → (cfg0.win 8).flush t = false := by decide +kernel
theorem live8 : ∀ t : Fin cfg0.N, k0_cond1 (grid0.coords t) = 1#1 → cfg0.idle 8 (grid0.coords t) = false := by decide +kernel

/-- Window 0's current staging memref at point `t`, and that it is a whole buffer. -/
abbrev ms0 (t : Fin cfg0.N) : Memref sig .tc .vmem S1x152x32 .f32 := win0_0.stage (cfg0.slots t 0)
abbrev hs0 (t : Fin cfg0.N) : (ms0 t).IsWhole := hstage0_0 ((cfg0.slots t 0).cast nbuf0_0)
/-- Window 1's current staging memref at point `t`, and that it is a whole buffer. -/
abbrev ms1 (t : Fin cfg0.N) : Memref sig .tc .vmem S1x152x32 .f32 := win0_1.stage (cfg0.slots t 1)
abbrev hs1 (t : Fin cfg0.N) : (ms1 t).IsWhole := hstage0_1 ((cfg0.slots t 1).cast nbuf0_1)
/-- Window 2's current staging memref at point `t`, and that it is a whole buffer. -/
abbrev ms2 (t : Fin cfg0.N) : Memref sig .tc .vmem S1x32x256 .f32 := win0_2.stage (cfg0.slots t 2)
abbrev hs2 (t : Fin cfg0.N) : (ms2 t).IsWhole := hstage0_2 ((cfg0.slots t 2).cast nbuf0_2)
/-- Window 3's current staging memref at point `t`, and that it is a whole buffer. -/
abbrev ms3 (t : Fin cfg0.N) : Memref sig .tc .vmem S1x32x256 .f32 := win0_3.stage (cfg0.slots t 3)
abbrev hs3 (t : Fin cfg0.N) : (ms3 t).IsWhole := hstage0_3 ((cfg0.slots t 3).cast nbuf0_3)
/-- Window 4's current staging memref at point `t`, and that it is a whole buffer. -/
abbrev ms4 (t : Fin cfg0.N) : Memref sig .tc .vmem S1x1x256 .f32 := win0_4.stage (cfg0.slots t 4)
abbrev hs4 (t : Fin cfg0.N) : (ms4 t).IsWhole := hstage0_4 ((cfg0.slots t 4).cast nbuf0_4)
/-- Window 5's current staging memref at point `t`, and that it is a whole buffer. -/
abbrev ms5 (t : Fin cfg0.N) : Memref sig .tc .vmem S1x1x256 .f32 := win0_5.stage (cfg0.slots t 5)
abbrev hs5 (t : Fin cfg0.N) : (ms5 t).IsWhole := hstage0_5 ((cfg0.slots t 5).cast nbuf0_5)
/-- Window 6's current staging memref at point `t`, and that it is a whole buffer. -/
abbrev ms6 (t : Fin cfg0.N) : Memref sig .tc .vmem S1x1x256 .f32 := win0_6.stage (cfg0.slots t 6)
abbrev hs6 (t : Fin cfg0.N) : (ms6 t).IsWhole := hstage0_6 ((cfg0.slots t 6).cast nbuf0_6)
/-- Window 7's current staging memref at point `t`, and that it is a whole buffer. -/
abbrev ms7 (t : Fin cfg0.N) : Memref sig .tc .vmem S104x1 .f32 := win0_7.stage (cfg0.slots t 7)
abbrev hs7 (t : Fin cfg0.N) : (ms7 t).IsWhole := hstage0_7 ((cfg0.slots t 7).cast nbuf0_7)
/-- Window 8's current staging memref at point `t`, and that it is a whole buffer. -/
abbrev ms8 (t : Fin cfg0.N) : Memref sig .tc .vmem S104x1 .i32 := win0_8.stage (cfg0.slots t 8)
abbrev hs8 (t : Fin cfg0.N) : (ms8 t).IsWhole := hstage0_8 ((cfg0.slots t 8).cast nbuf0_8)
/-- The score row: one scratch buffer, whole. -/
abbrev scM : Memref sig .tc .vmem S1x256 .f32 := Memref.whole cc0_scratch0

/-- The launch's scratch invariant: the score row at some contents, and the generator register at some state. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The score row before grid point `n`: what the points before `n` made of it (at 0, a value nothing reads). -/
def rowAt (c : Dev nD) : (n : ℕ) → n ≤ cfg0.N → Vec F S1x256 .f32
  | 0, _ => broadcast S1x256 (Scalar.ofBits .f32 0x00000000#32)
  | n + 1, hn => blockRow (grid0.coords ⟨n, hn⟩) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (rowAt c n (Nat.le_of_lt hn))

/-- At the first point the row a point leaves does not depend on what it found. -/
theorem blockRow_first (i : grid0.Coords) (hi : (i 0).val = 0) (x0 : Vec F S1x152x32 .f32) (x1 : Vec F S1x152x32 .f32) (x2 : Vec F S1x32x256 .f32) (x3 : Vec F S1x32x256 .f32) (x4 : Vec F S1x1x256 .f32) (x5 : Vec F S1x1x256 .f32) (x6 : Vec F S1x1x256 .f32) (d d' : Vec F S1x256 .f32) :
    blockRow i x0 x1 x2 x3 x4 x5 x6 d = blockRow i x0 x1 x2 x3 x4 x5 x6 d' := by
  unfold blockRow pointRow; rw [startRow_first i hi, startRow_first i hi]

/-- The region invariant before position `n`: at the start every scratch at anything, afterwards the score row at `rowAt`. -/
def PhiS (c : Dev nD) : (n : ℕ) → n ≤ cfg0.N → sProp 𝕄
  | 0, _ => Pipeline.ΦA spec0 c
  | n + 1, hn => iprop(iprop(owns (c : Thread nD τ) scM fullShare (rowAt m c (n + 1) hn)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (rowAt m c n h)) ∗ (∃ r, prngReg c r)) := by
  cases n with
  | zero => exact absurd rfl hz
  | succ n => rfl

/-- The proof data of the pipeline: arrays as the region finds them, inputs left in place, and the outputs at the rank
    selection of the score row after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (rowAt m c (t.val + 1) t.isLt)
    | ⟨8, _⟩ => k0_pay4 (rowAt m c (t.val + 1) t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = k0_pay3 (rowAt m c (t.val + 1) t.isLt) := by dsimp only [dats]
theorem after8 (c : Dev nD) (t : Fin cfg0.N) : (dats m 0 c).after 8 t = k0_pay4 (rowAt m c (t.val + 1) t.isLt) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) (h : k0_cond1 (grid0.coords t) = 1#1) :
    (dats m 0 c).leavesExact 7 t = owns (c : Thread nD τ) (ms7 t) fullShare (k0_pay3 (rowAt m c (t.val + 1) t.isLt)) := by
  unfold Dat.leavesExact; rw [live7 t h, after7]
theorem leaves8 (c : Dev nD) (t : Fin cfg0.N) (h : k0_cond1 (grid0.coords t) = 1#1) :
    (dats m 0 c).leavesExact 8 t = owns (c : Thread nD τ) (ms8 t) fullShare (k0_pay4 (rowAt m c (t.val + 1) t.isLt)) := by
  unfold Dat.leavesExact; rw [live8 t h, after8]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A buffer read after one store through the rectangle of its own sizes holds what was stored. -/
theorem read_stored {s : Shape} {e : EltTy} (v : View sig .tc .vmem s e) (f : v.ty.Contents (Elt F)) {off : Fin s.rank → ℕ}
    (inb : ∀ a, off a + s.size a ≤ s.size a) (w : s.Idx → Elt F e) (L : List (View.Piece (Elt F) s e)) (hL : L = [⟨Rect.unit off s.size inb, w⟩]) :
    v.read (Elt F) (v.writes (Elt F) f L) = w := by
  subst hL; exact View.read_writes_full v f inb w []

/-- The two ways the invariant hands over the score row: at the row `rowAt`, or at anything when the point is the first. -/
theorem row_in (c : Dev nD) (t : Fin cfg0.N) :
    (dats m 0 c).Φ t.castSucc ⊢ iprop((∃ d, ⌜blockRow (grid0.coords t) (iblk m c 0 t) (iblk m c 1 t) (iblk m c 2 t) (iblk m c 3 t) (iblk m c 4 t) (iblk m c 5 t) (iblk m c 6 t) d = rowAt m c (t.val + 1) t.isLt⌝ ∗ owns (c : Thread nD τ) scM fullShare d) ∗ (∃ r, prngReg c r)) := by
  rw [PhiS_castSucc m c t]
  by_cases hz : t.val = 0
  · rw [PhiS_zero m c _ _ hz, PhiA_eq]
    iintro ⟨⟨%d, HS⟩, Hg⟩
    isplitl [HS]
    · iexists d; isplitr
      · ipureintro; exact blockRow_first _ ((coord_eq t).trans hz) _ _ _ _ _ _ _ _ _
      iexact HS
    iexact Hg
  · rw [PhiS_pos m c _ _ hz]
    iintro ⟨HS, Hg⟩
    isplitl [HS]
    · iexists _; isplitr
      swap; · iexact HS
      ipureintro; rfl
    iexact Hg

set_option maxHeartbeats 4800000 in
/-- The body at any point keeps the invariant: the row moves from `rowAt t` to `rowAt (t + 1)`, and at the last point both
    outputs are stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, leaves0, leaves1, leaves2, leaves3, leaves4, leaves5, leaves6]
  rw [show (dats m 0 c).owesAt () t.succ = (dats m 0 c).owesAt () t.castSucc from rfl]
  rw [show (dats m 0 c).Φ t.succ = iprop(iprop(owns (c : Thread nD τ) scM fullShare (rowAt m c (t.val + 1) t.isLt)) ∗ (∃ r, prngReg c r)) from rfl]
  refine (Laws.sep_mono (row_in m c t) .rfl).trans ?_
  by_cases h : k0_cond1 (grid0.coords t) = 1#1
  · rw [leaves7 m c t h, leaves8 m c t h]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runLast c (grid0.coords t) _ _ _ _ _ _ _ _ _ _ _ _ _ _ _ _ _ _ _ _ h (iblk m c 0 t) (iblk m c 1 t) (iblk m c 2 t) (iblk m c 3 t) (iblk m c 4 t) (iblk m c 5 t) (iblk m c 6 t) d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, ⟨%es, HS⟩⟩
    isplitl [HS Hg]
    · isplitl [HS]
      · unfold owns; iexists _; isplitr
        swap; · iexact HS
        ipureintro; rw [← hd]; exact read_stored _ _ _ _ _ (last_pieces c _ _ _ _ _ _ _ _ _ _ _ _ _ _ _ _ _ _ _ _ _ h _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [← hd]; exact read_stored _ _ _ _ _ (last_scores c _ _ _ _ _ _ _ _ _ _ _ _ _ _ _ _ _ _ _ _ _ h _ _ _ _ _ _ _ _)
    unfold owns; iexists _; isplitr
    swap; · iexact H8
    ipureintro; rw [← hd]; exact read_stored _ _ _ _ _ (last_positions c _ _ _ _ _ _ _ _ _ _ _ _ _ _ _ _ _ _ _ _ _ h _ _ _ _ _ _ _ _)
  · rw [Dat.leavesExact_idle (dats m 0 c) 7 t (idle7 t h) (still7 t h), Dat.leavesExact_idle (dats m 0 c) 8 t (idle8 t h) (still8 t h)]
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runMid c (grid0.coords t) _ _ _ _ _ _ _ _ _ _ _ _ _ _ _ _ _ _ _ _ h (iblk m c 0 t) (iblk m c 1 t) (iblk m c 2 t) (iblk m c 3 t) (iblk m c 4 t) (iblk m c 5 t) (iblk m c 6 t) d).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, ⟨%es, HS⟩⟩
    isplitl [HS Hg]
    · isplitl [HS]
      · unfold owns; iexists _; isplitr
        swap; · iexact HS
        ipureintro; rw [← hd]; exact read_stored _ _ _ _ _ (mid_pieces c _ _ _ _ _ _ _ _ _ _ _ _ _ _ _ _ _ _ _ _ _ h _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have h0 : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ h0, PhiA_eq]
  iintro ⟨HS, Hg⟩
  isplitl [HS]
  · iexists _; iexact HS
  iexact Hg

set_option backward.isDefEq.respectTransparency.types false in
set_option maxHeartbeats 800000 in
/-- The launch: every weakly fair execution terminates, every array of the pipeline ends at what the proof data says, every
    other unscoped buffer as the lines after the region leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The program runs, leaves its arguments unchanged, and ends quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Idealize.ShloMosaic.θ_run_and (frame_of m ρ (dats m) (A_eq m) (run_main m ρ)) ((θ_run defs _ _).mono (fun _ h => h.2) (run_main_quiescent m ρ))

end Cert.KernelIdeal.Hand

end
-- ==== Proof.Tube.Frames.lean ====
/-
  The claims about the three runs themselves, and the claim that the idealised kernel's one named constant is the mask.
-/
module

public import proofs.«01_k».proof.Defs
public import proofs.«01_k».proof.Proof.Tube.K.Frame
public import proofs.«01_k».proof.Proof.Tube.KI.Frame
public import proofs.«01_k».proof.Proof.Gen.ReferenceIdeal.Run
public import Idealize.ShloMosaic.Lib.Quiescent

@[expose] public section

noncomputable section

namespace Cert.Proof

open Idealize.ShloMosaic Idealize.SL.Sem

/-- The kernel as printed runs, keeps its arguments and ends with every counter at zero. -/
theorem frame_kernel : Cert.quiescent_Kernel (hKernel := Cert.Kernel.Gen.facts) := fun m ρ _ =>
  Cert.Kernel.Hand.frame (F := Bits) m ρ

/-- The idealised kernel runs, keeps its arguments and ends with every counter at zero. -/
theorem frame_kernelIdeal : Cert.quiescent_KernelIdeal (hKernelIdeal := Cert.KernelIdeal.Gen.facts) := fun m ρ _ =>
  Cert.KernelIdeal.Hand.frame (F := Ideal) m ρ

/-- The reference runs and keeps its arguments; it declares no semaphore, so every counter is zero. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The table gives the mask the value minus infinity, which is what the idealised kernel's named constant denotes. -/
theorem preserves : Cert.preserves_Kernel_KernelIdeal :=
  IdealRules.named_const.statement Cert.KernelIdeal.κ "mask" .f32 0xF149F2CA#32 ⊥ rfl

end Cert.Proof

end
-- ==== Proof.Tube.Math.lean ====
/-
  The tube-linking recurrence as plain mathematics on extended reals: the intersection over union of two boxes, the mean of
  it over eight frames, the connection strength, one step of the recurrence and the scores after any number of steps.
-/
module

public import Idealize.ShloMosaic.Lib.Pointwise

@[expose] public section

noncomputable section

namespace Cert.Tube

open Idealize.ShloMosaic

/-- The length of the pixel range from `lo` to `hi`, zero when it is empty. -/
def side (lo hi : EReal) : EReal := max (hi - lo + 1) 0

/-- The area of the box with corners `(x0, y0)` and `(x1, y1)`. -/
def area (x0 y0 x1 y1 : EReal) : EReal := side x0 x1 * side y0 y1

/-- The area of the intersection of two boxes. -/
def inter (p0 p1 p2 p3 q0 q1 q2 q3 : EReal) : EReal := area (max p0 q0) (max p1 q1) (min p2 q2) (min p3 q3)

/-- The intersection over union of two boxes, the union kept above the printed small constant. -/
def iou (p0 p1 p2 p3 q0 q1 q2 q3 : EReal) : EReal :=
  Ideal.div (inter p0 p1 p2 p3 q0 q1 q2 q3)
    (max (area p0 p1 p2 p3 + area q0 q1 q2 q3 - inter p0 p1 p2 p3 q0 q1 q2 q3) (Ideal.ofBits .f32 0x322BCC77#32))

/-- Coordinate `c` of frame `f` among the 32 coordinates of half a tube. -/
abbrev at4 (f : Fin 8) (c : Fin 4) : Fin 32 := ⟨f.val * 4 + c.val, by omega⟩

/-- The intersection over union in frame `f` of two half tubes. -/
def frame (p q : Fin 32 → EReal) (f : Fin 8) : EReal :=
  iou (p (at4 f 0)) (p (at4 f 1)) (p (at4 f 2)) (p (at4 f 3)) (q (at4 f 0)) (q (at4 f 1)) (q (at4 f 2)) (q (at4 f 3))

/-- The mean intersection over union of two half tubes. -/
def overlap (p q : Fin 32 → EReal) : EReal := Ideal.div (∑ f : Fin 8, frame p q f) (Ideal.ofBits .f32 0x41000000#32)

/-- The connection strength of an overlap: itself above one half, zero otherwise. -/
def conn (x : EReal) : EReal := if Ideal.ofBits .f32 0x3F000000#32 < x then x else 0

/-- One step: the best connected predecessor of every tube, plus the tube's own actioness. -/
def link {n : ℕ} (s : Fin n → EReal) (p q : Fin n → Fin 32 → EReal) (act : Fin n → EReal) (j : Fin n) : EReal :=
  Finset.univ.fold max ⊥ (fun i => s i + conn (overlap (p i) (q j))) + act j

/-- The clip that time `t` names; past the last clip, the last. -/
abbrev clip (t : ℕ) : Fin 512 := ⟨min t 511, by omega⟩

/-- The scores at time `t`, from the tubes and the actioness. -/
def score (T : Fin 512 → Fin 150 → Fin 64 → EReal) (A : Fin 512 → Fin 150 → EReal) : ℕ → Fin 150 → EReal
  | 0 => A 0
  | t + 1 => link (score T A t) (fun i k => T (clip t) i ⟨32 + k.val, by omega⟩) (fun j k => T (clip (t + 1)) j ⟨k.val, by omega⟩) (A (clip (t + 1)))

/-- A small number is the integer that its word reads as. -/
theorem toInt_ofNat_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- A fold of `max` that starts at minus infinity is a supremum. -/
theorem fold_max_eq_sup {ι : Type} (S : Finset ι) (f : ι → EReal) : S.fold max ⊥ f = S.sup f := rfl

end Cert.Tube

end
-- ==== Proof.Tube.KernelStep.lean ====
/-
  The kernel's scan step at an index, over the extended reals.
-/
module

public import proofs.«01_k».proof.Proof.Tube.KI.Step
public import proofs.«01_k».proof.Proof.Tube.Math

@[expose] public section

set_option maxRecDepth 16384

noncomputable section

namespace Cert.KernelIdeal.Hand

open Idealize.ShloMosaic Cert.KernelIdeal Cert.KernelIdeal.Gen

/-- The kernel's box overlap at a pair of lanes is the overlap of the two boxes. -/
theorem boxIou_apply (a0 a1 a2 a3 : FVec Ideal S152x1 .f32) (b0 b1 b2 b3 : FVec Ideal S1x256 .f32) (i : Fin 152) (l : Fin 256) :
    boxIou a0 a1 a2 a3 b0 b1 b2 b3 (ix2 i l) = Tube.iou (a0 (ix2 i 0)) (a1 (ix2 i 0)) (a2 (ix2 i 0)) (a3 (ix2 i 0))
      (b0 (ix2 0 l)) (b1 (ix2 0 l)) (b2 (ix2 0 l)) (b3 (ix2 0 l)) := by
  pointwise [boxIou, interOf, areaOf, Tube.iou, Tube.inter, Tube.area, Tube.side]

/-- The printed eighth and eight are reciprocal. -/
theorem mul_eighth (x : EReal) : x * Ideal.ofBits .f32 0x3E000000#32 = Ideal.div x (Ideal.ofBits .f32 0x41000000#32) := by
  have h8 : Ideal.ofBits .f32 0x41000000#32 = ((8 : ℝ) : EReal) := by
    simp [Ideal.ofBits, Ideal.ieee, -EReal.coe_mul]; norm_num
  have h1 : Ideal.ofBits .f32 0x3E000000#32 = ((1 / 8 : ℝ) : EReal) := by
    simp [Ideal.ofBits, Ideal.ieee, -EReal.coe_mul]; norm_num
  rw [h8, Ideal.div_coe (by norm_num), h1]

/-- The kernel's mean overlap at a pair of lanes is the mean overlap of the two half tubes. -/
theorem overlap_apply (A : Fin 32 → Vec Ideal S1x152x1 .f32) (B : Fin 32 → Vec Ideal S1x1x256 .f32) (i : Fin 152) (l : Fin 256) :
    overlap A B (ix2 i l) = Tube.overlap (fun k => A k (ix3 0 i 0)) (fun k => B k (ix3 0 0 l)) := by
  unfold Tube.overlap
  rw [← mul_eighth, Fin.sum_univ_eight]
  pointwise [overlap, frameIou, boxIou_apply, colC, rowC, Tube.frame]
  rfl

/-- The scan step at a lane: masked past the last tube, the linking step over all 152 rows before. -/
theorem scanStep_apply (s : Vec Ideal S1x256 .f32) (A : Fin 32 → Vec Ideal S1x152x1 .f32) (B : Fin 32 → Vec Ideal S1x1x256 .f32) (act : Vec Ideal S1x1x256 .f32) (l : Fin 256) :
    scanStep s A B act (ix2 0 l) = if l.val < 150 then
      Finset.univ.fold max ⊥ (fun i : Fin 152 => s (ix2 0 ⟨i.val, by omega⟩) + Tube.conn (Tube.overlap (fun k => A k (ix3 0 i 0)) (fun k => B k (ix3 0 0 l))))
        + act (ix3 0 0 l) else ⊥ := by
  simp only [← overlap_apply]
  have hm : (Named.named (F := Ideal) (φ := .f32) κ "mask" 0xF149F2CA#32) = (⊥ : EReal) := IdealRules.named_const.ideal_named_scalar _ _ _ _ rfl
  have h0 : Ideal.ofBits .f32 0xFF800000#32 = (⊥ : EReal) := by simp [Ideal.ofBits, Ideal.ieee]
  pointwise [scanStep, masked, connect, toCol, Tube.conn]
  simp only [hm, h0]
  have hc : IntOp.cmpi .slt (BitVec.ofNat 32 l.val) 150#32 = BitVec.ofBool (decide (l.val < 150)) := by
    revert l; decide +kernel
  rw [hc]
  by_cases h : l.val < 150 <;> simp [h, Scalar.select] <;> rfl

/-- Lane `l` of the row `s` holds entry `l` of `σ`, and minus infinity past the last entry. -/
def Row (s : Vec Ideal S1x256 .f32) (σ : Fin 150 → EReal) : Prop :=
  ∀ l : Fin 256, s (ix2 0 l) = if h : l.val < 150 then σ ⟨l.val, h⟩ else ⊥

/-- A maximum over 152 values of which the last two are minus infinity is the maximum over the first 150. -/
theorem fold_max_152 (f : Fin 152 → EReal) (hf : ∀ i : Fin 152, ¬ i.val < 150 → f i = ⊥) :
    Finset.univ.fold max ⊥ f = Finset.univ.fold max ⊥ fun i : Fin 150 => f ⟨i.val, by omega⟩ := by
  rw [Tube.fold_max_eq_sup, Tube.fold_max_eq_sup]
  refine le_antisymm (Finset.sup_le fun i _ => ?_) (Finset.sup_le fun i _ => Finset.le_sup (f := f) (Finset.mem_univ _))
  by_cases h : i.val < 150
  · exact Finset.le_sup (f := fun i : Fin 150 => f ⟨i.val, by omega⟩) (Finset.mem_univ ⟨i.val, h⟩)
  · rw [hf i h]; exact bot_le

/-- The scan step takes the row of `σ` to the row of the linking step from `σ`. -/
theorem scanStep_row {s : Vec Ideal S1x256 .f32} {σ : Fin 150 → EReal} {A : Fin 32 → Vec Ideal S1x152x1 .f32}
    {B : Fin 32 → Vec Ideal S1x1x256 .f32} {act : Vec Ideal S1x1x256 .f32} {p q : Fin 150 → Fin 32 → EReal} {a : Fin 150 → EReal}
    (hs : Row s σ) (hA : ∀ k (i : Fin 150), A k (ix3 0 ⟨i.val, by omega⟩ 0) = p i k)
    (hB : ∀ k (j : Fin 150), B k (ix3 0 0 ⟨j.val, by omega⟩) = q j k) (ha : ∀ j : Fin 150, act (ix3 0 0 ⟨j.val, by omega⟩) = a j) :
    Row (scanStep s A B act) (Tube.link σ p q a) := by
  intro l
  rw [scanStep_apply]
  by_cases h : l.val < 150
  · rw [if_pos h, dif_pos h, fold_max_152 _ fun i hi => by rw [hs, dif_neg hi, EReal.bot_add]]
    unfold Tube.link
    have hl : act (ix3 0 0 l) = a ⟨l.val, h⟩ := ha ⟨l.val, h⟩
    have hq : (fun k => B k (ix3 0 0 l)) = q ⟨l.val, h⟩ := funext fun k => hB k ⟨l.val, h⟩
    rw [hl, hq]
    congr 2
    funext i
    rw [hs, dif_pos (show (⟨i.val, _⟩ : Fin 256).val < 150 from i.isLt), show (fun k => A k (ix3 0 ⟨i.val, _⟩ 0)) = p i from funext fun k => hA k i]
  · rw [if_neg h, dif_neg h]

end Cert.KernelIdeal.Hand

end
-- ==== Proof.Tube.Blocks.lean ====
/-
  What the kernel's input blocks hold at the real rows and lanes, over the extended reals: entries of the two arguments.
-/
module

public import proofs.«01_k».proof.Proof.Tube.KI.Frame
public import proofs.«01_k».proof.Proof.Tube.KernelStep
public import Idealize.ShloMosaic.Lib.Claim
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen

variable (m : (ℓ : Loc nD τ sig) → Buf (Elt Ideal) ℓ)

/-- The tubes argument on a core. -/
abbrev tubes (c : Dev nD) : FVec Ideal S512x150x64 .f32 := m ((c.tc : Thread nD τ).loc main_arg0)

/-- The actioness argument on a core. -/
abbrev acts (c : Dev nD) : FVec Ideal S512x150 .f32 := m ((c.tc : Thread nD τ).loc main_arg1)

/-- The padded second halves at a real row. -/
theorem V_tails (c : Dev nD) (a : Fin 512) (i : Fin 150) (k : Fin 32) :
    (V m c main_v2 : FVec Ideal S512x152x32 .f32) (ix3 a ⟨i.val, by omega⟩ k) = tubes m c (ix3 a i ⟨32 + k.val, by omega⟩) := by
  simp only [V, V0, hostOps0, hostOps0_1, hostOps0_2, hostOps0_3, hostOps0_4, hostOps0_5, hostOps0_6, List.flatten_cons, List.flatten_nil,
    List.append_nil, List.cons_append, List.nil_append]
  entry_read
  simp -implicitDefEqProofs only [StableHlo.TRef.toBuf, StableHlo.TRef.ofBuf, cast_cast, cast_eq]
  pointwise

/-- The padded and transposed first halves at a real lane. -/
theorem V_heads (c : Dev nD) (a : Fin 512) (i : Fin 150) (k : Fin 32) :
    (V m c main_v4 : FVec Ideal S512x32x256 .f32) (ix3 a k ⟨i.val, by omega⟩) = tubes m c (ix3 a i ⟨k.val, by omega⟩) := by
  simp only [V, V0, hostOps0, hostOps0_1, hostOps0_2, hostOps0_3, hostOps0_4, hostOps0_5, hostOps0_6, List.flatten_cons, List.flatten_nil,
    List.append_nil, List.cons_append, List.nil_append]
  entry_read
  simp -implicitDefEqProofs only [StableHlo.TRef.toBuf, StableHlo.TRef.ofBuf, cast_cast, cast_eq]
  pointwise

/-- The padded actioness at a real lane. -/
theorem V_acts (c : Dev nD) (a : Fin 512) (i : Fin 150) :
    (V m c main_v6 : FVec Ideal S512x1x256 .f32) (ix3 a 0 ⟨i.val, by omega⟩) = acts m c (ix2 a i) := by
  simp only [V, V0, hostOps0, hostOps0_1, hostOps0_2, hostOps0_3, hostOps0_4, hostOps0_5, hostOps0_6, List.flatten_cons, List.flatten_nil,
    List.append_nil, List.cons_append, List.nil_append]
  entry_read
  simp -implicitDefEqProofs only [StableHlo.TRef.toBuf, StableHlo.TRef.ofBuf, cast_cast, cast_eq]
  pointwise

/-- The windows' index maps at every point. -/
theorem idx : ∀ t : Fin cfg0.N, win0_0.index t = ![2 * t.val, 0, 0] ∧ win0_1.index t = ![min (2 * t.val + 1) 510, 0, 0]
    ∧ win0_2.index t = ![2 * t.val + 1, 0, 0] ∧ win0_3.index t = ![min (2 * t.val + 2) 511, 0, 0]
    ∧ win0_4.index t = ![2 * t.val + 1, 0, 0] ∧ win0_5.index t = ![min (2 * t.val + 2) 511, 0, 0] ∧ win0_6.index t = ![0, 0, 0] :=
  (by decide +kernel : ∀ t : Fin grid0.N, _)

/-- The first step's earlier clip. -/
theorem block0 (c : Dev nD) (t : Fin cfg0.N) (i : Fin 150) (k : Fin 32) :
    (iblk m c 0 t : FVec Ideal S1x152x32 .f32) (ix3 0 ⟨i.val, by omega⟩ k) = tubes m c (ix3 (Tube.clip (2 * t.val)) i ⟨32 + k.val, by omega⟩) := by
  rw [← V_tails]
  blk_ext [iblk, idx t]

/-- The second step's earlier clip, where there is a second step. -/
theorem block1 (c : Dev nD) (t : Fin cfg0.N) (ht : t.val < 255) (i : Fin 150) (k : Fin 32) :
    (iblk m c 1 t : FVec Ideal S1x152x32 .f32) (ix3 0 ⟨i.val, by omega⟩ k) = tubes m c (ix3 (Tube.clip (2 * t.val + 1)) i ⟨32 + k.val, by omega⟩) := by
  rw [← V_tails]
  blk_ext [iblk, idx t]

/-- The first step's later clip. -/
theorem block2 (c : Dev nD) (t : Fin cfg0.N) (i : Fin 150) (k : Fin 32) :
    (iblk m c 2 t : FVec Ideal S1x32x256 .f32) (ix3 0 k ⟨i.val, by omega⟩) = tubes m c (ix3 (Tube.clip (2 * t.val + 1)) i ⟨k.val, by omega⟩) := by
  rw [← V_heads]
  blk_ext [iblk, idx t]

/-- The second step's later clip. -/
theorem block3 (c : Dev nD) (t : Fin cfg0.N) (i : Fin 150) (k : Fin 32) :
    (iblk m c 3 t : FVec Ideal S1x32x256 .f32) (ix3 0 k ⟨i.val, by omega⟩) = tubes m c (ix3 (Tube.clip (2 * t.val + 2)) i ⟨k.val, by omega⟩) := by
  rw [← V_heads]
  blk_ext [iblk, idx t]

/-- The first step's actioness. -/
theorem block4 (c : Dev nD) (t : Fin cfg0.N) (i : Fin 150) :
    (iblk m c 4 t : FVec Ideal S1x1x256 .f32) (ix3 0 0 ⟨i.val, by omega⟩) = acts m c (ix2 (Tube.clip (2 * t.val + 1)) i) := by
  rw [← V_acts]
  blk_ext [iblk, idx t]

/-- The second step's actioness. -/
theorem block5 (c : Dev nD) (t : Fin cfg0.N) (i : Fin 150) :
    (iblk m c 5 t : FVec Ideal S1x1x256 .f32) (ix3 0 0 ⟨i.val, by omega⟩) = acts m c (ix2 (Tube.clip (2 * t.val + 2)) i) := by
  rw [← V_acts]
  blk_ext [iblk, idx t]

/-- The actioness of the first clip. -/
theorem block6 (c : Dev nD) (t : Fin cfg0.N) (i : Fin 150) :
    (iblk m c 6 t : FVec Ideal S1x1x256 .f32) (ix3 0 0 ⟨i.val, by omega⟩) = acts m c (ix2 (Tube.clip (0)) i) := by
  rw [← V_acts]
  blk_ext [iblk, idx t]

end Cert.KernelIdeal.Hand

end
-- ==== Proof.Tube.Scores.lean ====
/-
  The kernel's carried score row, over the extended reals: after point `n` it holds the scores at time `2n + 2`, or at the
  last time after the last point.
-/
module

public import proofs.«01_k».proof.Proof.Tube.Blocks

@[expose] public section

set_option maxRecDepth 16384

noncomputable section

namespace Cert.KernelIdeal.Hand

open Idealize.ShloMosaic Idealize.ShloMosaic.TcCoe Cert.KernelIdeal Cert.KernelIdeal.Gen

variable (m : (ℓ : Loc nD τ sig) → Buf (Elt Ideal) ℓ)

/-- The scores at time `n` of the arguments on a core. -/
abbrev scores (c : Dev nD) (n : ℕ) : Fin 150 → EReal := Tube.score (fun a i k => tubes m c (ix3 a i k)) (fun a i => acts m c (ix2 a i)) n

/-- A column of a column block, at a row. -/
theorem colOf_apply (x : Vec Ideal S1x152x32 .f32) (k : Fin 32) (i : Fin 152) : colOf x k (ix3 0 i 0) = x (ix3 0 i k) := by
  unfold colOf; congr 1; funext a; fin_cases a <;> rfl

/-- A row of a row block, at a lane. -/
theorem rowOf_apply (x : Vec Ideal S1x32x256 .f32) (k : Fin 32) (l : Fin 256) : rowOf x k (ix3 0 0 l) = x (ix3 0 k l) := by
  unfold rowOf; congr 1; funext a; fin_cases a <;> rfl

/-- The masked actioness block is the row of the actioness. -/
theorem masked_row (act : Vec Ideal S1x1x256 .f32) (a : Fin 150 → EReal) (ha : ∀ j : Fin 150, act (ix3 0 0 ⟨j.val, by omega⟩) = a j) :
    Row (masked (F := Ideal) (shapeCast S1x256 act shapeCasts_S1x1x256_S1x256)) a := by
  intro l
  have hm : (Named.named (F := Ideal) (φ := .f32) κ "mask" 0xF149F2CA#32) = (⊥ : EReal) := IdealRules.named_const.ideal_named_scalar _ _ _ _ rfl
  pointwise [masked]
  have hc : IntOp.cmpi .slt (BitVec.ofNat 32 l.val) 150#32 = BitVec.ofBool (decide (l.val < 150)) := by
    revert l; decide +kernel
  rw [hc, hm]
  by_cases h : l.val < 150
  · have hl : act (ix3 0 0 l) = a ⟨l.val, h⟩ := ha ⟨l.val, h⟩
    simp [h, Scalar.select, hl]
  · simp [h, Scalar.select]

/-- There is a second step at every point but the last. -/
theorem second_step : ∀ n : Fin 256, Scalar.cmpi .slt (Scalar.addi (Scalar.muli 2#32 (BitVec.ofNat 32 n.val)) 1#32) 511#32
    = BitVec.ofBool (decide (n.val < 255)) := by decide +kernel

/-- A point that starts from the row at time `2t` leaves the row at time `2t + 2`, the last point the one at time 511. -/
theorem pointRow_row (c : Dev nD) (t : Fin cfg0.N) (xs : Vec Ideal S1x256 .f32)
    (hs : Row (startRow (grid0.coords t) (iblk m c 6 t) xs) (scores m c (2 * t.val))) :
    Row (blockRow (grid0.coords t) (iblk m c 0 t) (iblk m c 1 t) (iblk m c 2 t) (iblk m c 3 t) (iblk m c 4 t) (iblk m c 5 t) (iblk m c 6 t) xs)
      (scores m c (min (2 * t.val + 2) 511)) := by
  have ht : t.val < 256 := t.isLt
  have h1 : Row (scanStep (startRow (grid0.coords t) (iblk m c 6 t) xs) (colOf (iblk m c 0 t)) (rowOf (iblk m c 2 t)) (iblk m c 4 t))
      (scores m c (2 * t.val + 1)) :=
    scanStep_row hs (fun k i => (colOf_apply _ k _).trans (block0 m c t i k)) (fun k i => (rowOf_apply _ k _).trans (block2 m c t i k))
      (block4 m c t)
  have hc : (grid0.coords t 0).val = t.val := coord_eq t
  intro l
  unfold blockRow pointRow
  by_cases h : t.val < 255
  · have h2 := scanStep_row h1 (fun k i => (colOf_apply _ k _).trans (block1 m c t h i k)) (fun k i => (rowOf_apply _ k _).trans (block3 m c t i k))
      (block5 m c t)
    have hb : Scalar.cmpi .slt (Scalar.addi (Scalar.muli 2#32 (BitVec.ofNat 32 (grid0.coords t 0).val)) 1#32) 511#32 = 1#1 := by
      rw [hc, second_step ⟨t.val, ht⟩]; simp [h]
    have e : min (2 * t.val + 2) 511 = 2 * t.val + 1 + 1 := by omega
    rw [hb, e]
    refine Eq.trans ?_ (h2 l)
    pointwise
  · have hb : Scalar.cmpi .slt (Scalar.addi (Scalar.muli 2#32 (BitVec.ofNat 32 (grid0.coords t 0).val)) 1#32) 511#32 = 0#1 := by
      rw [hc, second_step ⟨t.val, ht⟩]; simp [h]
    have e : min (2 * t.val + 2) 511 = 2 * t.val + 1 := by omega
    rw [hb, e]
    refine Eq.trans ?_ (h1 l)
    pointwise

/-- After point `n` the row holds the scores at time `2n + 2`, or at the last time. -/
theorem rowAt_row (c : Dev nD) (n : ℕ) (hn : n + 1 ≤ cfg0.N) : Row (rowAt m c (n + 1) hn) (scores m c (min (2 * n + 2) 511)) := by
  induction n with
  | zero =>
    refine pointRow_row m c ⟨0, hn⟩ _ ?_
    rw [startRow_first _ (coord_eq ⟨0, hn⟩)]
    exact masked_row _ _ (block6 m c ⟨0, hn⟩)
  | succ n ih =>
    have hN : n + 2 ≤ 256 := hn
    refine pointRow_row m c ⟨n + 1, hn⟩ _ ?_
    rw [startRow_later _ (by rw [coord_eq]; exact Nat.succ_ne_zero n)]
    have e : min (2 * n + 2) 511 = 2 * (n + 1) := by omega
    have := ih (Nat.le_of_succ_le hn)
    rw [e] at this
    exact this

end Cert.KernelIdeal.Hand

end
-- ==== Proof.Tube.Rank.lean ====
/-
  A stable descending sort of finitely many extended reals, read by ranks: the element put at position `k` is the one before
  which exactly `k` others come, those greater and those equal at an earlier position.
-/
module

public import Idealize.ShloMosaic.Lib.SortPrefix
public import Idealize.ShloMosaic.Lib.SortFacts
public import Mathlib.Data.EReal.Basic

@[expose] public section

noncomputable section

namespace Cert.Tube

open Idealize.ShloMosaic

/-- On a list whose elements all relate by `lt` to the later ones, two relations that agree on pairs with the later element
    first sort alike. -/
theorem stableSort_eq_of_agree {ι : Type} (lt : ι → ι → Prop) (R R' : ι → ι → Bool) (h : ∀ a b, lt a b → R b a = R' b a)
    (l : List ι) (hl : l.Pairwise lt) : stableSort R l = stableSort R' l := by
  induction l with
  | nil => rfl
  | cons a l ih =>
    obtain ⟨ha, hl⟩ := List.pairwise_cons.mp hl
    unfold stableSort
    rw [ih hl]
    exact insertBefore_congr R R' a _ fun b hb => h a b (ha b ((perm_stableSort R' l).mem_iff.mp hb))

variable {n : ℕ} (f : Fin n → EReal)

/-- Greater first, equal elements in the order of their positions. -/
def ahead (i j : Fin n) : Bool := decide (f j < f i) || (decide (f i = f j) && decide (i < j))

/-- `ahead` is a strict total order. -/
theorem ahead_strict : StrictTotalBefore (ahead f) := by
  have h := StrictTotalBefore.of_key_then_position (n := n) (κ := EReal) (fun x y => decide (y < x)) f
    (fun a => by simp) (fun a b c => by simp only [decide_eq_true_eq]; exact fun h1 h2 => lt_trans h2 h1)
    (fun a b => by simp only [decide_eq_true_eq]; rcases lt_trichotomy a b with h | h | h <;> simp [h])
  exact h

/-- The stable sort by "greater" is the sort by `ahead`. -/
theorem sortedFrom_gt_eq : sortedFrom (fun i j : Fin n => decide (f j < f i)) = sortedFrom (ahead f) := by
  have h : sortPositions n (fun i j : Fin n => decide (f j < f i)) = sortPositions n (ahead f) :=
    stableSort_eq_of_agree (· < ·) _ _ (fun a b hab => by
      unfold ahead; simp [not_lt.mpr (le_of_lt hab)]) _ (List.pairwise_lt_finRange n)
  funext k
  unfold sortedFrom
  simp only [List.get_eq_getElem, h]
  rfl

/-- The number of elements that come before element `i`. -/
def rank (i : Fin n) : ℕ := (Finset.univ.filter fun j => ahead f j i = true).card

/-- Exactly `k` elements come before the one that the sort puts at position `k`. -/
theorem rank_sortedFrom (k : Fin n) : rank f (sortedFrom (fun i j : Fin n => decide (f j < f i)) k) = k.val := by
  rw [sortedFrom_gt_eq]
  have hs := ahead_strict f
  have hlt : ∀ i j : Fin n, i < j → ahead f (sortedFrom (ahead f) i) (sortedFrom (ahead f) j) = true := fun i j hij => by
    have hne : sortedFrom (ahead f) i ≠ sortedFrom (ahead f) j := fun e => (ne_of_lt hij) (sortedFrom_injective _ e)
    have hn := sortedFrom_noInversion (ahead f) (ahead f) (fun a b h => hs.asymm a b h) (fun _ _ h => h) hs.negTrans i j hij
    rcases hs.total _ _ hne with h | h
    · exact h
    · rw [hn] at h; cases h
  have e : (Finset.univ.filter fun j => ahead f j (sortedFrom (ahead f) k) = true)
      = (Finset.univ.filter fun i : Fin n => i < k).image (sortedFrom (ahead f)) := by
    ext j
    simp only [Finset.mem_filter, Finset.mem_univ, true_and, Finset.mem_image]
    constructor
    · intro h
      obtain ⟨i, rfl⟩ := sortedFrom_surjective (ahead f) j
      refine ⟨i, ?_, rfl⟩
      rcases lt_trichotomy i k with hk | hk | hk
      · exact hk
      · subst hk; rw [hs.irrefl] at h; cases h
      · rw [hs.asymm _ _ (hlt k i hk)] at h; cases h
    · rintro ⟨i, hi, rfl⟩
      exact hlt i k hi
  unfold rank
  rw [e, Finset.card_image_of_injective _ (sortedFrom_injective _)]
  have : (Finset.univ.filter fun i : Fin n => i < k) = Finset.Iio k := by ext i; simp
  rw [this, Fin.card_Iio]

/-- Different elements have different ranks. -/
theorem rank_injective : Function.Injective (rank f) := by
  intro i j h
  obtain ⟨a, rfl⟩ := sortedFrom_surjective (fun i j : Fin n => decide (f j < f i)) i
  obtain ⟨b, rfl⟩ := sortedFrom_surjective (fun i j : Fin n => decide (f j < f i)) j
  rw [rank_sortedFrom, rank_sortedFrom] at h
  rw [Fin.ext h]

end Cert.Tube

end
-- ==== Proof.Tube.Top.lean ====
/-
  The kernel's selection of the best entries, read over the extended reals: entry `k` of the first result is the value that
  a stable descending sort puts at position `k`, and entry `k` of the second its position in the row.
-/
module

public import proofs.«01_k».proof.Proof.Tube.Rank
public import proofs.«01_k».proof.Proof.Tube.KernelStep
public import Idealize.ShloMosaic.Lib.IndicatorCount

@[expose] public section

set_option maxRecDepth 16384

noncomputable section

namespace Cert.KernelIdeal.Hand

open Idealize.ShloMosaic Cert.KernelIdeal Cert.KernelIdeal.Gen

/-- The indicator of two small numbers being equal, as an extended real. -/
theorem indicator_eq (a b : ℕ) (ha : a < 2 ^ 32) (hb : b < 2 ^ 32) :
    (FloatOps.sitofp .f32 (BitVec.setWidth 32 (IntOp.cmpi .eq (BitVec.ofNat 32 a) (BitVec.ofNat 32 b))) : Ideal .f32)
      = if a = b then (1 : EReal) else 0 := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  show ((((BitVec.setWidth 32 (IntOp.cmpi .eq (BitVec.ofNat 32 a) (BitVec.ofNat 32 b))).toInt : ℤ) : ℝ) : EReal) = _
  by_cases h : a = b
  · simp [IntOp.cmpi, h]
  · have hb : IntOp.cmpi .eq (BitVec.ofNat 32 a) (BitVec.ofNat 32 b) = 0#1 := by
      unfold IntOp.cmpi
      simp only [beq_false_of_ne fun c => h (e.mp c)]
      rfl
    simp [h, hb]

/-- The order of two lanes as numbers is their order as words. -/
theorem lane_lt (x l : Fin 256) : IntOp.cmpi .slt (BitVec.ofNat 32 x.val) (BitVec.ofNat 32 l.val) = BitVec.ofBool (decide (x < l)) := by
  have hx := x.isLt
  have hl := l.isLt
  simp only [IntOp.cmpi, BitVec.slt, Tube.toInt_ofNat_small x.val (by omega), Tube.toInt_ofNat_small l.val (by omega),
    Nat.cast_lt, Fin.lt_def]

/-- The two indicators that the kernel adds are together the indicator of coming ahead. -/
theorem ahead_bits (f : Fin 256 → EReal) (x l : Fin 256) :
    IntOp.addi (BitVec.setWidth 32 (BitVec.ofBool (decide (f l < f x))))
      (BitVec.setWidth 32 (IntOp.andi (BitVec.ofBool (decide (f x = f l))) (BitVec.ofBool (decide (x < l)))))
      = BitVec.setWidth 32 (BitVec.ofBool (Tube.ahead f x l)) := by
  unfold Tube.ahead
  by_cases h1 : f l < f x
  · have h2 : ¬ f x = f l := fun e => absurd h1 (by rw [e]; exact lt_irrefl _)
    by_cases h3 : x < l <;> simp [h1, h2, h3, IntOp.addi, IntOp.andi]
  · by_cases h2 : f x = f l <;> by_cases h3 : x < l <;> simp [h1, h2, h3, IntOp.addi, IntOp.andi]

/-- The selection matrix has a one where the lane's rank is the row's number, and zeros elsewhere. -/
theorem sel_apply (s : Vec Ideal S1x256 .f32) (k : Fin 104) (l : Fin 256) :
    k0_pay2 s (ix2 k l) = if Tube.rank (fun l : Fin 256 => s (ix2 0 l)) l = k.val then (1 : EReal) else 0 := by
  have hd : ∀ x : Fin 256, (∑ x_1 : Fin 256, s (ix2 0 x_1) * (FloatOps.sitofp .f32 (BitVec.setWidth 32
      (IntOp.cmpi .eq (BitVec.ofNat 32 x.val) (BitVec.ofNat 32 x_1.val))) : Ideal .f32) : EReal) = s (ix2 0 x) := fun x => by
    rw [Finset.sum_eq_single x]
    · rw [indicator_eq _ _ (by omega) (by omega), if_pos rfl]; exact mul_one _
    · intro b _ hb
      rw [indicator_eq _ _ (by omega) (by omega), if_neg fun e => hb (Fin.ext e.symm)]; exact mul_zero _
    · exact fun h => absurd (Finset.mem_univ x) h
  pointwise [k0_pay2]
  simp only [hd, lane_lt]
  have hf := fun x => ahead_bits (fun l : Fin 256 => s (ix2 0 l)) x l
  simp only [hf]
  rw [IndicatorCount.fold_addi_setWidth_eq_card]
  have hr : (Finset.univ.filter fun x : Fin 256 => BitVec.ofBool (Tube.ahead (fun l : Fin 256 => s (ix2 0 l)) x l) = 1#1).card
      = Tube.rank (fun l : Fin 256 => s (ix2 0 l)) l := by
    unfold Tube.rank
    congr 1
    ext x
    simp only [Finset.mem_filter]
    generalize Tube.ahead (fun l : Fin 256 => s (ix2 0 l)) x l = b
    cases b <;> simp
  rw [hr]
  refine indicator_eq _ _ ?_ (by omega)
  exact lt_of_le_of_lt (Finset.card_le_univ _) (by simp)

/-- A row that is extended by minus infinity keeps the ranks of its entries. -/
theorem rank_extend (g : Fin 256 → EReal) (f : Fin 150 → EReal) (h : ∀ l : Fin 256, g l = if h : l.val < 150 then f ⟨l.val, h⟩ else ⊥)
    (i : Fin 150) : Tube.rank g (Fin.castLE (by decide) i) = Tube.rank f i := by
  have hg : ∀ j : Fin 150, g (Fin.castLE (by decide) j) = f j := fun j => by rw [h]; exact dif_pos j.isLt
  unfold Tube.rank
  rw [← Finset.card_map (Fin.castLEEmb (show 150 ≤ 256 by decide))]
  congr 1
  ext j
  simp only [Finset.mem_filter, Finset.mem_univ, true_and, Finset.mem_map, Fin.castLEEmb_apply]
  constructor
  · intro hj
    by_cases hl : j.val < 150
    · refine ⟨⟨j.val, hl⟩, ?_, rfl⟩
      have e := hg ⟨j.val, hl⟩
      unfold Tube.ahead at hj ⊢
      rw [hg i, show g j = f ⟨j.val, hl⟩ from e] at hj
      exact hj
    · exfalso
      unfold Tube.ahead at hj
      rw [h j, dif_neg hl] at hj
      have : ¬ j < Fin.castLE (show 150 ≤ 256 by decide) i := by
        rw [Fin.lt_def]; have := i.isLt; simp; omega
      simp [this] at hj
  · rintro ⟨j, hj, rfl⟩
    unfold Tube.ahead at hj ⊢
    rw [hg, hg]
    exact hj

/-- A row at a real lane. -/
theorem row_at {s : Vec Ideal S1x256 .f32} {f : Fin 150 → EReal} (hs : Row s f) (i : Fin 150) :
    s (ix2 0 (Fin.castLE (by decide) i)) = f i := by
  rw [hs]; exact dif_pos i.isLt

/-- A small number converted to an extended real and back. -/
theorem fptosi_sitofp (n : ℕ) (h : n < 2 ^ 31) :
    FloatOps.fptosi (F := Ideal) (φ := .f32) 32 (FloatOps.sitofp .f32 (BitVec.ofNat 32 n)) = BitVec.ofNat 32 n := by
  show Ideal.fptosi 32 ((((BitVec.ofNat 32 n).toInt : ℤ) : ℝ) : EReal) = _
  rw [Tube.toInt_ofNat_small n h, Ideal.fptosi, Ideal.toIntClamped_coe, if_pos (by positivity), Int.floor_intCast]
  have e : max (-((2 ^ (32 - 1) : ℕ) : ℤ)) (min (((2 ^ (32 - 1) : ℕ) : ℤ) - 1) (n : ℤ)) = n := by
    norm_num at h ⊢; omega
  rw [e, BitVec.ofInt_natCast]

/-- The position that a stable descending sort of `f` puts at `k`. -/
abbrev best (f : Fin 150 → EReal) (k : Fin 100) : Fin 150 :=
  sortedFrom (fun i j : Fin 150 => decide (f j < f i)) (Fin.castLE (by decide) k)

/-- Row `k` of the selection matrix has its one at the position that the sort puts at `k`. -/
theorem sel_row {s : Vec Ideal S1x256 .f32} {f : Fin 150 → EReal} (hs : Row s f) (k : Fin 100) (l : Fin 256) :
    k0_pay2 s (ix2 (Fin.castLE (by decide) k) l) = if l = Fin.castLE (by decide) (best f k) then (1 : EReal) else 0 := by
  rw [sel_apply]
  have hr : Tube.rank (fun l : Fin 256 => s (ix2 0 l)) (Fin.castLE (by decide) (best f k)) = k.val := by
    rw [rank_extend _ f hs]; exact Tube.rank_sortedFrom f _
  refine if_congr ?_ rfl rfl
  constructor
  · exact fun e => Tube.rank_injective _ (e.trans hr.symm)
  · rintro rfl; exact hr

/-- A sum weighted by row `k` of the selection matrix is the one term selected. -/
theorem sel_sum {s : Vec Ideal S1x256 .f32} {f : Fin 150 → EReal} (hs : Row s f) (k : Fin 100) (v : Fin 256 → EReal) :
    (∑ l : Fin 256, (k0_pay2 s (ix2 (Fin.castLE (by decide) k) l) : EReal) * v l) = v (Fin.castLE (by decide) (best f k)) := by
  rw [Finset.sum_eq_single (Fin.castLE (by decide) (best f k))]
  · rw [sel_row hs, if_pos rfl, one_mul]
  · intro b _ hb
    rw [sel_row hs, if_neg hb, zero_mul]
  · exact fun h => absurd (Finset.mem_univ _) h

/-- The first result's entry `k` is the value at the position that the sort puts at `k`. -/
theorem top_score {s : Vec Ideal S1x256 .f32} {f : Fin 150 → EReal} (hs : Row s f) (k : Fin 100) :
    k0_pay3 s (ix2 (Fin.castLE (by decide) k) 0) = f (best f k) := by
  pointwise [k0_pay3]
  refine (sel_sum hs k fun l => s (ix2 0 l)).trans ?_
  exact row_at hs _

/-- The second result's entry `k` is the position that the sort puts at `k`. -/
theorem top_position {s : Vec Ideal S1x256 .f32} {f : Fin 150 → EReal} (hs : Row s f) (k : Fin 100) :
    k0_pay4 s (ix2 (Fin.castLE (by decide) k) 0) = BitVec.ofNat 32 (best f k).val := by
  pointwise [k0_pay4]
  have e := sel_sum hs k fun l => (FloatOps.sitofp .f32 (BitVec.ofNat 32 l.val) : Ideal .f32)
  generalize best f k = b at e ⊢
  rw [e]
  exact fptosi_sitofp b.val (by omega)

end Cert.KernelIdeal.Hand

end
-- ==== Proof.Tube.Results.lean ====
/-
  The kernel's two results, over the extended reals: the best hundred scores at the last time and their positions.
-/
module

public import proofs.«01_k».proof.Proof.Tube.Scores
public import proofs.«01_k».proof.Proof.Tube.Top

@[expose] public section

set_option maxRecDepth 16384

noncomputable section

namespace Cert.KernelIdeal.Hand

open Idealize.ShloMosaic Idealize.ShloMosaic.TcCoe Idealize.ShloMosaic.Tactic Cert.KernelIdeal Cert.KernelIdeal.Gen

variable (m : (ℓ : Loc nD τ sig) → Buf (Elt Ideal) ℓ)

/-- The last grid point. -/
def lastPt : Fin cfg0.N := ⟨255, by rw [show cfg0.N = 256 from N_0]; decide⟩

/-- The score row after the last point. -/
abbrev endRow (c : Dev nD) : Vec Ideal S1x256 .f32 := rowAt m c (lastPt.val + 1) lastPt.isLt

/-- It holds the scores at the last time. -/
theorem endRow_row (c : Dev nD) : Row (endRow m c) (scores m c 511) := rowAt_row m c 255 lastPt.isLt

/-- The column of best scores ends as the last point writes it. -/
theorem column_scores (c : Dev nD) : (dats m 0 c).arrAt 7 (cfgs 0).N = k0_pay3 (endRow m c) := by
  refine (dats m 0 c).arrAt_eq_of_after_last 7 lastPt (by decide +kernel) _ fun j => ?_
  blk_simp
  rw [after7]

/-- The column of positions ends as the last point writes it. -/
theorem column_positions (c : Dev nD) : (dats m 0 c).arrAt 8 (cfgs 0).N = k0_pay4 (endRow m c) := by
  refine (dats m 0 c).arrAt_eq_of_after_last 8 lastPt (by decide +kernel) _ fun j => ?_
  blk_simp
  rw [after8]

/-- What the lines after the region find in a window's array. -/
theorem region_left (c : Dev nD) (w : Fin cfg0.W) :
    Pipeline.withArrays spec0 c (V0 m c) (fun w => (dats m 0 c).arrAt w (cfgs 0).N) (Proc.devRef .tc (Pipeline.arrRef spec0 w))
      = (dats m 0 c).arrAt w (cfgs 0).N :=
  (dats m 0 c).withArrays_arrAt sharedIn0 (V0 m c) (A_eq m c) w

/-- Entry `k` of the first result is the score at the position ranked `k`. -/
theorem result_scores (c : Dev nD) (k : Fin 100) :
    Pipeline.afterTail₀ cfgs (dats m) 0 (V0 m) [hostOps1] c main_v9 (ix1 k) = scores m c 511 (best (scores m c 511) k) := by
  have h := region_left m c 7
  rw [column_scores m c] at h
  have e : Pipeline.afterTail₀ cfgs (dats m) 0 (V0 m) [hostOps1] c main_v9
      = shapeCast S100 (extractStridedSlice S100x1 ![0, 0] (k0_pay3 (endRow m c)) slices_S104x1_S100x1_0_0) shapeCasts_S100x1_S100 := by
    rw [← h]
    unfold Pipeline.afterTail₀
    simp only [hostOps1, List.flatten_cons, List.flatten_nil, List.append_nil, List.cons_append, List.nil_append]
    entry_read
    rfl
  rw [e, ← top_score (endRow_row m c) k]
  pointwise
  rfl

/-- Entry `k` of the second result is that position. -/
theorem result_positions (c : Dev nD) (k : Fin 100) :
    Pipeline.afterTail₀ cfgs (dats m) 0 (V0 m) [hostOps1] c main_v11 (ix1 k) = BitVec.ofNat 32 (best (scores m c 511) k).val := by
  have h := region_left m c 8
  rw [column_positions m c] at h
  have e : Pipeline.afterTail₀ cfgs (dats m) 0 (V0 m) [hostOps1] c main_v11
      = shapeCast S100 (extractStridedSlice S100x1 ![0, 0] (k0_pay4 (endRow m c)) slices_S104x1_S100x1_0_0) shapeCasts_S100x1_S100 := by
    rw [← h]
    unfold Pipeline.afterTail₀
    simp only [hostOps1, List.flatten_cons, List.flatten_nil, List.append_nil, List.cons_append, List.nil_append]
    entry_read
    rfl
  rw [e, ← top_position (endRow_row m c) k]
  pointwise
  rfl

end Cert.KernelIdeal.Hand

end
-- ==== Proof.Tube.RefStep.lean ====
/-
  The reference's scan step at an index, over the extended reals.
-/
module

public import proofs.«01_k».proof.Proof.Gen.ReferenceIdeal.Step
public import proofs.«01_k».proof.Proof.Tube.Math

@[expose] public section

set_option maxRecDepth 16384

noncomputable section

namespace Cert.ReferenceIdeal.Hand

open Idealize.ShloMosaic Cert.ReferenceIdeal Cert.ReferenceIdeal.Gen Cert.ReferenceIdeal.Step

/-- Trip `j` reads the slab `j` of the earlier clips. -/
theorem b2_apply (j : ℕ) (hj : j < 511) (s : State Ideal) (i : Fin 150) (k : Fin 64) : b2 j s (ix3 0 i k) = s.main_v5_0 (ix3 ⟨j, hj⟩ i k) := by
  have e := Tube.toInt_ofNat_small j (by omega)
  have e' : (min (j : ℤ) 510).toNat = j := by omega
  pointwise [b2, b0, b1, Host.clampedStart]
  simp [constantI, e, e']

/-- Trip `j` reads the slab `j` of the later clips. -/
theorem b6_apply (j : ℕ) (hj : j < 511) (s : State Ideal) (i : Fin 150) (k : Fin 64) : b6 j s (ix3 0 i k) = s.main_v5_1 (ix3 ⟨j, hj⟩ i k) := by
  have e := Tube.toInt_ofNat_small j (by omega)
  have e' : (min (j : ℤ) 510).toNat = j := by omega
  pointwise [b6, b4, b5, Host.clampedStart]
  simp [constantI, e, e']

/-- Trip `j` reads the row `j` of the later clips' actioness. -/
theorem b10_apply (j : ℕ) (hj : j < 511) (s : State Ideal) (i : Fin 150) : b10 j s (ix1 i) = s.main_v5_2 (ix2 ⟨j, hj⟩ i) := by
  have e := Tube.toInt_ofNat_small j (by omega)
  have e' : (min (j : ℤ) 510).toNat = j := by omega
  pointwise [b10, b9, b8, Host.clampedStart]
  simp [constantI, e, e']

/-- The second half of tube `i` in the earlier clip of trip `j`. -/
def tail (j : ℕ) (hj : j < 511) (s : State Ideal) (i : Fin 150) (k : Fin 32) : EReal := s.main_v5_0 (ix3 ⟨j, hj⟩ i ⟨32 + k.val, by omega⟩)

/-- The first half of tube `i` in the later clip of trip `j`. -/
def head (j : ℕ) (hj : j < 511) (s : State Ideal) (i : Fin 150) (k : Fin 32) : EReal := s.main_v5_1 (ix3 ⟨j, hj⟩ i ⟨k.val, by omega⟩)

/-- The boxes of the second halves. -/
theorem b13_apply (j : ℕ) (hj : j < 511) (s : State Ideal) (i : Fin 150) (f : Fin 8) (c : Fin 4) : b13 j s (ix3 i f c) = tail j hj s i (Tube.at4 f c) := by
  pointwise [b13, b11, b3, b2_apply j hj, tail, Tube.at4]

/-- The boxes of the first halves. -/
theorem b14_apply (j : ℕ) (hj : j < 511) (s : State Ideal) (i : Fin 150) (f : Fin 8) (c : Fin 4) : b14 j s (ix3 i f c) = head j hj s i (Tube.at4 f c) := by
  pointwise [b14, b12, b7, b6_apply j hj, head, Tube.at4]

/-- The reference's box overlap in one frame. -/
theorem b127_apply (j : ℕ) (hj : j < 511) (s : State Ideal) (i l : Fin 150) (f : Fin 8) :
    b127 j s (ix3 i l f) = Tube.frame (tail j hj s i) (head j hj s l) f := by
  simp only [Tube.frame, ← b13_apply, ← b14_apply, Tube.iou, Tube.inter, Tube.area, Tube.side, max_comm _ (0 : EReal)]
  pointwise [b15, b16, b17, b18, b19, b20, b21, b22, b23, b24, b25, b26, b27, b28, b29, b30, b31, b32, b33, b34,
    b35, b36, b37, b38, b39, b40, b41, b42, b43, b44, b45, b46, b47, b48, b49, b50, b51, b52, b53, b54,
    b55, b56, b57, b58, b59, b60, b61, b62, b63, b64, b65, b66, b67, b68, b69, b70, b71, b72, b73, b74,
    b75, b76, b77, b78, b79, b80, b81, b82, b83, b84, b85, b86, b87, b88, b89, b90, b91, b92, b93, b94,
    b95, b96, b97, b98, b99, b100, b101, b102, b103, b104, b105, b106, b107, b108, b109, b110, b111, b112, b113, b114,
    b115, b116, b117, b118, b119, b120, b121, b122, b123, b124, b125, b126, b127]

/-- The reference's mean overlap. -/
theorem b132_apply (j : ℕ) (hj : j < 511) (s : State Ideal) (i l : Fin 150) :
    b132 j s (ix2 i l) = Tube.overlap (tail j hj s i) (head j hj s l) := by
  pointwise [b132, b131, b130, b129, b128, b127_apply j hj, Tube.overlap]

/-- One trip is the linking step. -/
theorem step_scores (j : ℕ) (hj : j < 511) (s : State Ideal) (l : Fin 150) :
    (step j s).main_v5_4 (ix1 l) = Tube.link (fun i => s.main_v5_4 (ix1 i)) (tail j hj s) (head j hj s) (fun i => s.main_v5_2 (ix2 ⟨j, hj⟩ i)) l := by
  have h0 : Ideal.ofBits .f32 0xFF800000#32 = (⊥ : EReal) := by simp [Ideal.ofBits, Ideal.ieee]
  unfold Tube.link
  rw [step_main_v5_4]
  simp only [← b10_apply j hj s]
  pointwise [b145, b144, b143, b142, b141, b140, b139, b138, b137, b136, b135, b134, b133, b132_apply j hj, Tube.conn]
  rw [h0]

/-- The position that a stable descending sort of a row puts at `k`. -/
abbrev best (x : FVec Ideal S150 .f32) (k : Fin 150) : Fin 150 :=
  sortedFrom (fun i j : Fin 150 => decide (x (ix1 j) < x (ix1 i))) k

/-- A sort of two rows by "the first is greater", at a position. -/
theorem sort2_apply {β : Type} (x : FVec Ideal S150 .f32) (y : S150.Idx → β) (k : Fin 150) :
    (Host.sort2 S150 0 (fun l r : Ideal .f32 × β => FloatOps.cmpfTotal .gt l.1 r.1) x y).1 (ix1 k) = x (ix1 (best x k))
    ∧ (Host.sort2 S150 0 (fun l r : Ideal .f32 × β => FloatOps.cmpfTotal .gt l.1 r.1) x y).2 (ix1 k) = y (ix1 (best x k)) := by
  have h0 : 0 < S150.rank := by decide
  have ea : ∀ p : Fin 150, Shape.Idx.along (s := S150) (ix1 k) ⟨0, h0⟩ p = ix1 p := fun p => by
    funext a
    have : a = 0 := Fin.fin_one_eq_zero a
    subst this
    rfl
  have eb : (fun i j : Fin 150 => FloatOps.cmpfTotal (F := Ideal) (φ := .f32) .gt
        (x (Shape.Idx.along (s := S150) (ix1 k) ⟨0, h0⟩ i)) (x (Shape.Idx.along (s := S150) (ix1 k) ⟨0, h0⟩ j)) == 1#1)
      = fun i j : Fin 150 => decide (x (ix1 j) < x (ix1 i)) := by
    funext i j
    rw [ea, ea]
    show (BitVec.ofBool (decide (x (ix1 j) < x (ix1 i))) == 1#1) = _
    cases decide (x (ix1 j) < x (ix1 i)) <;> rfl
  have ep : sortedFrom (fun i j : Fin 150 => FloatOps.cmpfTotal (F := Ideal) (φ := .f32) .gt
        (x (Shape.Idx.along (s := S150) (ix1 k) ⟨0, h0⟩ i)) (x (Shape.Idx.along (s := S150) (ix1 k) ⟨0, h0⟩ j)) == 1#1) k = best x k := by
    rw [eb]
  unfold Host.sort2
  rw [dif_pos h0]
  exact ⟨congrArg x ((congrArg (Shape.Idx.along (s := S150) (ix1 k) ⟨0, h0⟩) ep).trans (ea _)),
    congrArg y ((congrArg (Shape.Idx.along (s := S150) (ix1 k) ⟨0, h0⟩) ep).trans (ea _))⟩

/-- The first result's entry `k` is the value at the position that a stable descending sort puts at `k`. -/
theorem values_apply (s : State Ideal) (k : Fin 100) :
    R_main_values s (ix1 k) = s.main_v5_4 (ix1 (best s.main_v5_4 (Fin.castLE (by decide) k))) := by
  unfold R_main_values Host.topK
  pointwise
  exact (sort2_apply _ _ _).1

/-- The second result's entry `k` is that position. -/
theorem indices_apply (s : State Ideal) (k : Fin 100) :
    R_main_indices s (ix1 k) = BitVec.ofNat 32 (best s.main_v5_4 (Fin.castLE (by decide) k)).val := by
  unfold R_main_indices Host.topK
  pointwise
  exact (sort2_apply _ _ _).2

end Cert.ReferenceIdeal.Hand

end
-- ==== Proof.Tube.RefScores.lean ====
/-
  The reference's carried scores, over the extended reals: before trip `n` they are the scores at time `n`.
-/
module

public import proofs.«01_k».proof.Proof.Tube.RefStep

@[expose] public section

set_option maxRecDepth 16384

noncomputable section

namespace Cert.ReferenceIdeal.Hand

open Idealize.ShloMosaic Cert.ReferenceIdeal Cert.ReferenceIdeal.Gen Cert.ReferenceIdeal.Step

variable (x : FVec Ideal S512x150x64 .f32) (a : FVec Ideal S512x150 .f32)

/-- The loop's states, one for each trip. -/
def states (n : ℕ) : State Ideal := Nat.rec (init x a) (fun n s => step n s) n

/-- One trip leaves the slices of the arguments alone. -/
theorem step_fixed (j : ℕ) (s : State Ideal) :
    (step j s).main_v5_0 = s.main_v5_0 ∧ (step j s).main_v5_1 = s.main_v5_1 ∧ (step j s).main_v5_2 = s.main_v5_2 := by
  unfold step; exact ⟨rfl, rfl, rfl⟩

/-- No trip changes the slices of the arguments. -/
theorem states_fixed (n : ℕ) : (states x a n).main_v5_0 = A_main_v2 x a ∧ (states x a n).main_v5_1 = A_main_v3 x a
    ∧ (states x a n).main_v5_2 = A_main_v4 x a := by
  induction n with
  | zero => exact ⟨rfl, rfl, rfl⟩
  | succ n ih =>
    have e : states x a (n + 1) = step n (states x a n) := rfl
    obtain ⟨h0, h1, h2⟩ := step_fixed n (states x a n)
    rw [e, h0, h1, h2]
    exact ih

/-- The earlier clips are the clips from the first on. -/
theorem earlier_apply (j : Fin 511) (i : Fin 150) (k : Fin 64) : A_main_v2 (F := Ideal) x a (ix3 j i k) = x (ix3 ⟨j.val, by omega⟩ i k) := by
  pointwise [A_main_v2]

/-- The later clips are the clips from the second on. -/
theorem later_apply (j : Fin 511) (i : Fin 150) (k : Fin 64) : A_main_v3 (F := Ideal) x a (ix3 j i k) = x (ix3 ⟨1 + j.val, by omega⟩ i k) := by
  pointwise [A_main_v3]

/-- The actioness of the later clips. -/
theorem acts_apply (j : Fin 511) (i : Fin 150) : A_main_v4 (F := Ideal) x a (ix2 j i) = a (ix2 ⟨1 + j.val, by omega⟩ i) := by
  pointwise [A_main_v4]

/-- The scores start at the actioness of the first clip. -/
theorem first_apply (i : Fin 150) : A_main_v1 (F := Ideal) x a (ix1 i) = a (ix2 0 i) := by
  pointwise [A_main_v1, A_main_v0]

/-- Before trip `n` the carried row is the scores at time `n`. -/
theorem states_score (n : ℕ) (hn : n ≤ 511) :
    (fun l => (states x a n).main_v5_4 (ix1 l)) = Tube.score (fun c i k => x (ix3 c i k)) (fun c i => a (ix2 c i)) n := by
  induction n with
  | zero => funext l; exact first_apply x a l
  | succ n ih =>
    have hj : n < 511 := hn
    obtain ⟨e0, e1, e2⟩ := states_fixed x a n
    have c0 : Tube.clip n = ⟨n, by omega⟩ := Fin.ext (min_eq_left (by omega))
    have c1 : Tube.clip (n + 1) = ⟨1 + n, by omega⟩ := Fin.ext ((min_eq_left (by omega)).trans (Nat.add_comm n 1))
    have ht : tail n hj (states x a n) = fun i k => x (ix3 (Tube.clip n) i ⟨32 + k.val, by omega⟩) := by
      funext i k; rw [c0]; unfold tail; rw [e0]; exact earlier_apply x a ⟨n, hj⟩ i _
    have hh : head n hj (states x a n) = fun i k => x (ix3 (Tube.clip (n + 1)) i ⟨k.val, by omega⟩) := by
      funext i k; rw [c1]; unfold head; rw [e1]; exact later_apply x a ⟨n, hj⟩ i _
    have ha : (fun i => (states x a n).main_v5_2 (ix2 ⟨n, hj⟩ i)) = fun i => a (ix2 (Tube.clip (n + 1)) i) := by
      funext i; rw [c1, e2]; exact acts_apply x a ⟨n, hj⟩ i
    funext l
    refine (step_scores n hj (states x a n) l).trans ?_
    rw [ih (by omega), ht, hh, ha]
    rfl

end Cert.ReferenceIdeal.Hand

end
-- ==== Proof.Tube.Algebraic.lean ====
/-
  The kernel's results and the reference's, over the extended reals, are the same.
-/
module

public import proofs.«01_k».proof.Defs
public import proofs.«01_k».proof.Proof.Tube.Results
public import proofs.«01_k».proof.Proof.Tube.RefScores
public import proofs.«01_k».proof.Proof.Gen.ReferenceIdeal.StepRun

@[expose] public section

set_option maxRecDepth 16384

noncomputable section

namespace Cert.Proof

open Idealize.ShloMosaic Idealize.ShloMosaic.TcCoe Cert.KernelIdeal.Hand

variable (m : (ℓ : Loc KernelIdeal.nD KernelIdeal.τ KernelIdeal.sig) → Buf (Elt Ideal) ℓ)

/-- The best hundred scores at the last time. -/
def topScores (c : Dev KernelIdeal.nD) : FVec Ideal KernelIdeal.S100 .f32 := fun i => scores m c 511 (best (scores m c 511) (i 0))

/-- Their positions. -/
def topPositions (c : Dev KernelIdeal.nD) : IVec KernelIdeal.S100 32 := fun i => BitVec.ofNat 32 (best (scores m c 511) (i 0)).val

/-- An index of a hundred entries is its one coordinate. -/
theorem eq_ix1 (i : KernelIdeal.S100.Idx) : i = ix1 (n0 := 100) (i 0) := by
  funext a; have : a = 0 := Fin.fin_one_eq_zero a; subst this; rfl

/-- The kernel ends with the best hundred scores and their positions, and its arguments unchanged. -/
theorem run_kernel (g : Dev KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev KernelIdeal.nD,
      r.2.mem ((c.tc : Thread KernelIdeal.nD KernelIdeal.τ).loc KernelIdeal.main_v9) = topScores m c
      ∧ r.2.mem ((c.tc : Thread KernelIdeal.nD KernelIdeal.τ).loc KernelIdeal.main_v11) = topPositions m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)) := by
  refine (θ_run _ _ _).mono (fun _ h c => ⟨?_, ?_, ?_, ?_⟩) (KernelIdeal.Hand.run_main m g)
  · refine ((h c).2 KernelIdeal.main_v9 (Pipeline.mem_restRefs_of _ (by decide) (by decide))).trans ?_
    funext i
    exact (congrArg _ (eq_ix1 i)).trans (result_scores m c (i 0))
  · refine ((h c).2 KernelIdeal.main_v11 (Pipeline.mem_restRefs_of _ (by decide) (by decide))).trans ?_
    funext i
    exact (congrArg _ (eq_ix1 i)).trans (result_positions m c (i 0))
  · exact ((h c).2 KernelIdeal.main_arg0 (Pipeline.mem_restRefs_of _ (by decide) (by decide))).trans (KernelIdeal.Gen.W_main_arg0 m _ c)
  · exact ((h c).2 KernelIdeal.main_arg1 (Pipeline.mem_restRefs_of _ (by decide) (by decide))).trans (KernelIdeal.Gen.W_main_arg1 m _ c)

/-- A row that agrees with a function has the same stable order. -/
theorem best_eq (x : FVec Ideal ReferenceIdeal.S150 .f32) (f : Fin 150 → EReal) (e : (fun l => x (ix1 l)) = f) (k : Fin 100) :
    ReferenceIdeal.Hand.best x (Fin.castLE (by decide) k) = best f k := by
  subst e; rfl

/-- The reference's first result, of a last state that carries a given row of scores. -/
theorem values_of (s : ReferenceIdeal.Step.State Ideal) (c : Dev KernelIdeal.nD) (e : (fun l => s.main_v5_4 (ix1 l)) = scores m c 511) :
    ReferenceIdeal.Step.R_main_values s = topScores m c := by
  funext i
  obtain ⟨k, rfl⟩ : ∃ k : Fin 100, i = ix1 k := ⟨i 0, eq_ix1 i⟩
  refine (ReferenceIdeal.Hand.values_apply s k).trans ?_
  rw [best_eq _ _ e]
  exact congrFun e _

/-- The second likewise. -/
theorem indices_of (s : ReferenceIdeal.Step.State Ideal) (c : Dev KernelIdeal.nD) (e : (fun l => s.main_v5_4 (ix1 l)) = scores m c 511) :
    ReferenceIdeal.Step.R_main_indices s = topPositions m c := by
  funext i
  obtain ⟨k, rfl⟩ : ∃ k : Fin 100, i = ix1 k := ⟨i 0, eq_ix1 i⟩
  refine (ReferenceIdeal.Hand.indices_apply s k).trans ?_
  rw [best_eq _ _ e]
  rfl

/-- The kernel and the reference end with equal results. -/
theorem algebraic : Cert.algebraic_KernelIdeal_ReferenceIdeal := by
  intro m g m' g' _ hagree
  refine ⟨fun c => topScores m c, fun c => topPositions m c, run_kernel m g, ?_⟩
  obtain ⟨it, h0, hs, he⟩ : ∃ it : Dev ReferenceIdeal.nD → ℕ → ReferenceIdeal.Step.State Ideal,
      (∀ c, it c 0 = ReferenceIdeal.StepRun.initState m' c) ∧ (∀ c n, it c (n + 1) = ReferenceIdeal.Step.step n (it c n))
        ∧ ∀ c : Dev KernelIdeal.nD, (fun l => (it c 511).main_v5_4 (ix1 l)) = scores m c 511 := by
    refine ⟨fun c => ReferenceIdeal.Hand.states (m' ((c.tc : Thread ReferenceIdeal.nD ReferenceIdeal.τ).loc ReferenceIdeal.main_arg0))
      (m' ((c.tc : Thread ReferenceIdeal.nD ReferenceIdeal.τ).loc ReferenceIdeal.main_arg1)), fun c => rfl, fun c n => rfl, fun c => ?_⟩
    refine (ReferenceIdeal.Hand.states_score _ _ 511 le_rfl).trans ?_
    rw [(hagree c).1, (hagree c).2]
  exact (θ_run _ _ _).mono (fun _ h c => ⟨(h c).1.trans (values_of m _ c (he c)), (h c).2.1.trans (indices_of m _ c (he c)), (h c).2.2⟩)
    (ReferenceIdeal.StepRun.run_iter (F := Ideal) m' g' it h0 hs)

end Cert.Proof

end
-- ==== Proof.lean ====
module

public import proofs.«01_k».proof.Defs
public import proofs.«01_k».proof.Proof.Tube.Frames
public import proofs.«01_k».proof.Proof.Tube.Algebraic

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
